-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![768, 384]⟩ ⟨2, ![12288, 384]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S768x384 : Shape := ⟨2, ![768, 384]⟩
abbrev S384x768 : Shape := ⟨2, ![384, 768]⟩
abbrev S12288x768 : Shape := ⟨2, ![12288, 768]⟩
abbrev S16x768x384 : Shape := ⟨3, ![16, 768, 384]⟩
abbrev S16 : Shape := ⟨1, ![16]⟩
abbrev S_ : Shape := ⟨0, ![]⟩
abbrev S1 : Shape := ⟨1, ![1]⟩
abbrev S1x768x384 : Shape := ⟨3, ![1, 768, 384]⟩
abbrev S768x768 : Shape := ⟨2, ![768, 768]⟩

abbrev nBuf : Space → Nat
  | .hbm => 3
  | .vmem => 5
  | .smem => 0
  | _ => 0

abbrev bufTy : (tb : Table) → Fin (tcTables nBuf tb) → BufTy
  | .hbm, ⟨0, _⟩ => ⟨S768x384, .f32⟩
  | .hbm, ⟨1, _⟩ => ⟨S384x768, .f32⟩
  | .hbm, ⟨2, _⟩ => ⟨S12288x768, .f32⟩
  | .local _ .vmem, ⟨0, _⟩ => ⟨S768x384, .f32⟩
  | .local _ .vmem, ⟨1, _⟩ => ⟨S384x768, .f32⟩
  | .local _ .vmem, ⟨2, _⟩ => ⟨S12288x768, .f32⟩
  | .local _ .vmem, ⟨3, _⟩ => ⟨S768x384, .bf16⟩
  | .local _ .vmem, ⟨4, _⟩ => ⟨S16x768x384, .bf16⟩
  | _, _ => ⟨S768x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  (ofTc nBuf bufTy 1 35 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v8 : BitVec 32 := Scalar.addi v2 c15_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v12 : BitVec 32 := Scalar.addi v2 c2_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v16 : BitVec 32 := Scalar.addi v2 c14_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v20 : BitVec 32 := Scalar.addi v2 c3_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v24 : BitVec 32 := Scalar.addi v2 c13_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v28 : BitVec 32 := Scalar.addi v2 c4_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v32 : BitVec 32 := Scalar.addi v2 c12_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v36 : BitVec 32 := Scalar.addi v2 c5_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v40 : BitVec 32 := Scalar.addi v2 c11_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v44 : BitVec 32 := Scalar.addi v2 c6_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v48 : BitVec 32 := Scalar.addi v2 c10_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v52 : BitVec 32 := Scalar.addi v2 c7_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v56 : BitVec 32 := Scalar.addi v2 c9_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v60 : BitVec 32 := Scalar.addi v2 c8_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_71 : BitVec 32 := 0#32
  let c0_i32_72 : BitVec 32 := 0#32
  ![v2.toNat, 0, 0]
def k0_dev16 (d0 : Dev nD) : Nat :=
  let c0_i32_70 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_66 : BitVec 32 := 1#32
  let v73 : BitVec 32 := Scalar.addi v2 c1_i32_66
  let c16_i32_67 : BitVec 32 := 16#32
  let v74 : BitVec 32 := Scalar.remsi v73 c16_i32_67
  let c1_i32_69 : BitVec 32 := 1#32
  let v75 : BitVec 32 := Scalar.muli v74 c1_i32_69
  let v76 : BitVec 32 := Scalar.addi c0_i32_70 v75
  v76.toNat
def k0_dev17 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_73 : BitVec 32 := 15#32
  let v83 : BitVec 32 := Scalar.addi v2 c15_i32_73
  let c16_i32_74 : BitVec 32 := 16#32
  let v84 : BitVec 32 := Scalar.remsi v83 c16_i32_74
  let c1_i32_76 : BitVec 32 := 1#32
  let v85 : BitVec 32 := Scalar.muli v84 c1_i32_76
  let v86 : BitVec 32 := Scalar.addi c0_i32_77 v85
  v86.toNat
def k0_dev18 (d0 : Dev nD) : Nat :=
  let c0_i32_84 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_80 : BitVec 32 := 2#32
  let v93 : BitVec 32 := Scalar.addi v2 c2_i32_80
  let c16_i32_81 : BitVec 32 := 16#32
  let v94 : BitVec 32 := Scalar.remsi v93 c16_i32_81
  let c1_i32_83 : BitVec 32 := 1#32
  let v95 : BitVec 32 := Scalar.muli v94 c1_i32_83
  let v96 : BitVec 32 := Scalar.addi c0_i32_84 v95
  v96.toNat
def k0_dev19 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_87 : BitVec 32 := 14#32
  let v103 : BitVec 32 := Scalar.addi v2 c14_i32_87
  let c16_i32_88 : BitVec 32 := 16#32
  let v104 : BitVec 32 := Scalar.remsi v103 c16_i32_88
  let c1_i32_90 : BitVec 32 := 1#32
  let v105 : BitVec 32 := Scalar.muli v104 c1_i32_90
  let v106 : BitVec 32 := Scalar.addi c0_i32_91 v105
  v106.toNat
def k0_dev20 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_94 : BitVec 32 := 3#32
  let v113 : BitVec 32 := Scalar.addi v2 c3_i32_94
  let c16_i32_95 : BitVec 32 := 16#32
  let v114 : BitVec 32 := Scalar.remsi v113 c16_i32_95
  let c1_i32_97 : BitVec 32 := 1#32
  let v115 : BitVec 32 := Scalar.muli v114 c1_i32_97
  let v116 : BitVec 32 := Scalar.addi c0_i32_98 v115
  v116.toNat
def k0_dev21 (d0 : Dev nD) : Nat :=
  let c0_i32_105 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_101 : BitVec 32 := 13#32
  let v123 : BitVec 32 := Scalar.addi v2 c13_i32_101
  let c16_i32_102 : BitVec 32 := 16#32
  let v124 : BitVec 32 := Scalar.remsi v123 c16_i32_102
  let c1_i32_104 : BitVec 32 := 1#32
  let v125 : BitVec 32 := Scalar.muli v124 c1_i32_104
  let v126 : BitVec 32 := Scalar.addi c0_i32_105 v125
  v126.toNat
def k0_dev22 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_108 : BitVec 32 := 4#32
  let v133 : BitVec 32 := Scalar.addi v2 c4_i32_108
  let c16_i32_109 : BitVec 32 := 16#32
  let v134 : BitVec 32 := Scalar.remsi v133 c16_i32_109
  let c1_i32_111 : BitVec 32 := 1#32
  let v135 : BitVec 32 := Scalar.muli v134 c1_i32_111
  let v136 : BitVec 32 := Scalar.addi c0_i32_112 v135
  v136.toNat
def k0_dev23 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_115 : BitVec 32 := 12#32
  let v143 : BitVec 32 := Scalar.addi v2 c12_i32_115
  let c16_i32_116 : BitVec 32 := 16#32
  let v144 : BitVec 32 := Scalar.remsi v143 c16_i32_116
  let c1_i32_118 : BitVec 32 := 1#32
  let v145 : BitVec 32 := Scalar.muli v144 c1_i32_118
  let v146 : BitVec 32 := Scalar.addi c0_i32_119 v145
  v146.toNat
def k0_dev24 (d0 : Dev nD) : Nat :=
  let c0_i32_126 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_122 : BitVec 32 := 5#32
  let v153 : BitVec 32 := Scalar.addi v2 c5_i32_122
  let c16_i32_123 : BitVec 32 := 16#32
  let v154 : BitVec 32 := Scalar.remsi v153 c16_i32_123
  let c1_i32_125 : BitVec 32 := 1#32
  let v155 : BitVec 32 := Scalar.muli v154 c1_i32_125
  let v156 : BitVec 32 := Scalar.addi c0_i32_126 v155
  v156.toNat
def k0_dev25 (d0 : Dev nD) : Nat :=
  let c0_i32_133 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_129 : BitVec 32 := 11#32
  let v163 : BitVec 32 := Scalar.addi v2 c11_i32_129
  let c16_i32_130 : BitVec 32 := 16#32
  let v164 : BitVec 32 := Scalar.remsi v163 c16_i32_130
  let c1_i32_132 : BitVec 32 := 1#32
  let v165 : BitVec 32 := Scalar.muli v164 c1_i32_132
  let v166 : BitVec 32 := Scalar.addi c0_i32_133 v165
  v166.toNat
def k0_dev26 (d0 : Dev nD) : Nat :=
  let c0_i32_140 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_136 : BitVec 32 := 6#32
  let v173 : BitVec 32 := Scalar.addi v2 c6_i32_136
  let c16_i32_137 : BitVec 32 := 16#32
  let v174 : BitVec 32 := Scalar.remsi v173 c16_i32_137
  let c1_i32_139 : BitVec 32 := 1#32
  let v175 : BitVec 32 := Scalar.muli v174 c1_i32_139
  let v176 : BitVec 32 := Scalar.addi c0_i32_140 v175
  v176.toNat
def k0_dev27 (d0 : Dev nD) : Nat :=
  let c0_i32_147 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_143 : BitVec 32 := 10#32
  let v183 : BitVec 32 := Scalar.addi v2 c10_i32_143
  let c16_i32_144 : BitVec 32 := 16#32
  let v184 : BitVec 32 := Scalar.remsi v183 c16_i32_144
  let c1_i32_146 : BitVec 32 := 1#32
  let v185 : BitVec 32 := Scalar.muli v184 c1_i32_146
  let v186 : BitVec 32 := Scalar.addi c0_i32_147 v185
  v186.toNat
def k0_dev28 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_150 : BitVec 32 := 7#32
  let v193 : BitVec 32 := Scalar.addi v2 c7_i32_150
  let c16_i32_151 : BitVec 32 := 16#32
  let v194 : BitVec 32 := Scalar.remsi v193 c16_i32_151
  let c1_i32_153 : BitVec 32 := 1#32
  let v195 : BitVec 32 := Scalar.muli v194 c1_i32_153
  let v196 : BitVec 32 := Scalar.addi c0_i32_154 v195
  v196.toNat
def k0_dev29 (d0 : Dev nD) : Nat :=
  let c0_i32_161 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_157 : BitVec 32 := 9#32
  let v203 : BitVec 32 := Scalar.addi v2 c9_i32_157
  let c16_i32_158 : BitVec 32 := 16#32
  let v204 : BitVec 32 := Scalar.remsi v203 c16_i32_158
  let c1_i32_160 : BitVec 32 := 1#32
  let v205 : BitVec 32 := Scalar.muli v204 c1_i32_160
  let v206 : BitVec 32 := Scalar.addi c0_i32_161 v205
  v206.toNat
def k0_dev30 (d0 : Dev nD) : Nat :=
  let c0_i32_168 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_164 : BitVec 32 := 8#32
  let v213 : BitVec 32 := Scalar.addi v2 c8_i32_164
  let c16_i32_165 : BitVec 32 := 16#32
  let v214 : BitVec 32 := Scalar.remsi v213 c16_i32_165
  let c1_i32_167 : BitVec 32 := 1#32
  let v215 : BitVec 32 := Scalar.muli v214 c1_i32_167
  let v216 : BitVec 32 := Scalar.addi c0_i32_168 v215
  v216.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c768_i32 : BitVec 32 := 768#32
  let v225 : BitVec 32 := Scalar.muli v2 c768_i32
  let v226 : Index := Scalar.indexCast v225
  let c0_173 : Index := 0#32
  ![v226.toNat, 0]
def k0_off4 (d0 : Dev nD) (c1_i32_174 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v228 : BitVec 32 := Scalar.addi v2 c1_i32_174
  let c16_i32_175 : BitVec 32 := 16#32
  let v229 : BitVec 32 := Scalar.remsi v228 c16_i32_175
  ![v229.toNat]
def k0_off5 (d0 : Dev nD) (c1_i32_174 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v228 : BitVec 32 := Scalar.addi v2 c1_i32_174
  let c16_i32_175 : BitVec 32 := 16#32
  let v229 : BitVec 32 := Scalar.remsi v228 c16_i32_175
  let c0_i32_179 : BitVec 32 := 0#32
  let c0_i32_180 : BitVec 32 := 0#32
  ![v229.toNat, 0, 0]
def k0_off6 (d0 : Dev nD) (c1_i32_174 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v228 : BitVec 32 := Scalar.addi v2 c1_i32_174
  let c16_i32_175 : BitVec 32 := 16#32
  let v229 : BitVec 32 := Scalar.remsi v228 c16_i32_175
  let v236 : Index := Scalar.indexCast v229
  let c0_181 : Index := 0#32
  let c0_182 : Index := 0#32
  ![v236.toNat, 0, 0]
def k0_off7 (d0 : Dev nD) (c1_i32_174 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v228 : BitVec 32 := Scalar.addi v2 c1_i32_174
  let c16_i32_175 : BitVec 32 := 16#32
  let v229 : BitVec 32 := Scalar.remsi v228 c16_i32_175
  let c768_i32_184 : BitVec 32 := 768#32
  let v240 : BitVec 32 := Scalar.muli v229 c768_i32_184
  let v241 : Index := Scalar.indexCast v240
  let c0_185 : Index := 0#32
  ![v241.toNat, 0]
abbrev stage0_0 : Fin 1 → Memref sig .tc .vmem S768x384 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12288x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S12288x384 : Shape := ⟨2, ![12288, 384]⟩
abbrev S384x768 : Shape := ⟨2, ![384, 768]⟩
abbrev S12288x768 : Shape := ⟨2, ![12288, 768]⟩

abbrev nBuf : Space → Nat
  | .hbm => 3
  | .vmem => 0
  | .smem => 0
  | _ => 0

abbrev bufTy : (tb : Table) → Fin (tcTables nBuf tb) → BufTy
  | .hbm, ⟨0, _⟩ => ⟨S12288x384, .f32⟩
  | .hbm, ⟨1, _⟩ => ⟨S384x768, .f32⟩
  | .hbm, ⟨2, _⟩ => ⟨S12288x768, .f32⟩
  | _, _ => ⟨S12288x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Plan.lean ====
/-
The exchange of the kernel, written down before it is run.

Sixteen devices; device `c` names the others by how far on they are: `pl c r` is the device `r + 1`
places after `c`, `r : Fin 15`. Device `c` holds its own rows of A in a buffer `chunk` and sixteen slots in a
buffer `gathered`; slot `i` is where the rows of device `i` land. One round only, of three kinds of cell:

  * the barrier cell of `c`: paid one unit by each of the fifteen others, waited for once, all fifteen
    units at a time. The unit from `pl c r` hands `c` the right to write slot `c` on `pl c r`, at whatever
    it holds;
  * the receive cell `i` of `c`: paid by the one copy from device `i`, waited for once. It hands `c` its own
    slot `i`, now holding device `i`'s rows of A;
  * the send cell `r` of `c`: paid by the copy from `c` to `pl c r` when it has read its source, waited for
    once. It hands back the share of `chunk` the copy was reading through.

A device signals all the others, waits on its barrier, starts all the copies, and only then waits on its receive
cells and its send cells. So a device at its barrier owes receive cells alone, and at every later wait nothing.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Value
public import Idealize.ShloMosaic.Lib.Ring
public import Idealize.ShloMosaic.Lib.Tactic

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Who is who -/

/-- The device `r + 1` places after `c`. -/
def pl (c : Dev nD) (r : Fin 15) : Dev nD := ⟨(c.val + r.val + 1) % 16, Nat.mod_lt _ (by decide)⟩

/-- How far on `c` is from `pl c r`, counted the same way. -/
abbrev rv (r : Fin 15) : Fin 15 := Fin.rev r

/-- Going on and then back leads home. -/
theorem pl_rv (c : Dev nD) (r : Fin 15) : pl (pl c r) (rv r) = c := by revert c r; decide
/-- Taking the distance back twice gives the distance. -/
theorem rv_rv (r : Fin 15) : rv (rv r) = r := Fin.rev_rev r
/-- No distance leads home. -/
theorem pl_ne (c : Dev nD) (r : Fin 15) : pl c r ≠ c := by revert c r; decide
/-- Different distances lead to different devices. -/
theorem pl_inj (c : Dev nD) : Function.Injective (pl c) := by revert c; decide
/-- Every other device is some number of places on. -/
theorem pl_surj (c i : Dev nD) (h : i ≠ c) : ∃ r, pl c r = i := by revert c i; decide

/-- `r` places back and forth over all devices and all `r`. -/
def swap : Dev nD × Fin 15 ≃ Dev nD × Fin 15 where
  toFun x := (pl x.1 x.2, rv x.2)
  invFun x := (pl x.1 x.2, rv x.2)
  left_inv x := Prod.ext (pl_rv x.1 x.2) (rv_rv x.2)
  right_inv x := Prod.ext (pl_rv x.1 x.2) (rv_rv x.2)

/-- The order in which the kernel goes over the other devices: one on, one back, two on, two back, … -/
abbrev ord : List (Fin 15) := [0, 14, 1, 13, 2, 12, 3, 11, 4, 10, 5, 9, 6, 8, 7]

/-- No distance comes twice in the kernel's order. -/
theorem ord_nodup : ord.Nodup := by decide
/-- Every distance comes in the kernel's order. -/
theorem ord_univ : (Finset.univ : Finset (Fin 15)) = ord.toFinset := by decide

/-! ## The buffers -/

/-- The stage of A's rows. -/
abbrev aM : Memref sig .tc .vmem S768x384 .f32 := Memref.whole cc0_stg0_0
/-- The stage of B. -/
abbrev bM : Memref sig .tc .vmem S384x768 .f32 := Memref.whole cc0_stg1_0
/-- The stage of the result. -/
abbrev oM : Memref sig .tc .vmem S12288x768 .f32 := Memref.whole cc0_stg2_0
/-- `chunk`: the rows that are sent round. -/
abbrev chM : Memref sig .tc .vmem S768x384 .bf16 := Memref.whole cc0_scratch0
/-- `gathered`: a slot for each device's rows. -/
abbrev gM : Memref sig .tc .vmem S16x768x384 .bf16 := Memref.whole cc0_scratch1

/-- A slot lies within the buffer. -/
theorem slot_fits (i : Dev nD) : ∀ a, (![i.val, 0, 0] : Fin 3 → ℕ) a + S1x768x384.size a ≤ S16x768x384.size a := by
  have : i.val < 16 := i.isLt
  intro a; fin_cases a <;> simp [S1x768x384, S16x768x384]; omega

/-- A slot of `gathered` as the program spells it, at the offsets `off`. -/
abbrev slotAt (off : Fin 3 → ℕ) (h : ∀ a, off a + S1x768x384.size a ≤ S16x768x384.size a) : Memref sig .tc .vmem S768x384 .bf16 :=
  (gM.slice (Rect.unit (s := S16x768x384) off S1x768x384.size h) (fun _ => rfl)).squeeze S768x384 squeezes_S1x768x384_S768x384

/-- Slot `i` of `gathered`. -/
abbrev slot (i : Dev nD) : Memref sig .tc .vmem S768x384 .bf16 := slotAt ![i.val, 0, 0] (slot_fits i)

/-- Where index `(j, k)` of slot `i` lies in `gathered`: at `(i, j, k)`. -/
theorem slot_emb_val (i : Dev nD) (j : S768x384.Idx) :
    (((slot i).view.emb j : S16x768x384.Idx) 0).val = i.val ∧ (((slot i).view.emb j : S16x768x384.Idx) 1).val = (j 0).val
      ∧ (((slot i).view.emb j : S16x768x384.Idx) 2).val = (j 1).val := by
  have h : (slot i).view.emb j
      = (Rect.unit (s := S16x768x384) ![i.val, 0, 0] S1x768x384.size (slot_fits i)).emb (Fin.cons ⟨0, Nat.one_pos⟩ j) := by
    show (Rect.unit (s := S16x768x384) ![i.val, 0, 0] S1x768x384.size (slot_fits i)).emb
        (Shape.reshapeEquiv (s := ⟨3, Matrix.vecCons 1 ![768, 384]⟩) (s' := ⟨2, ![768, 384]⟩) _ j) = _
    rw [Shape.reshapeEquiv_cons_one]
  rw [h]
  refine ⟨?_, ?_, ?_⟩
  · show i.val + 1 * 0 = _; omega
  · show 0 + 1 * (j 0).val = _; omega
  · show 0 + 1 * (j 1).val = _; omega

/-- The elements of slot `i` are the elements of `gathered` whose first coordinate is `i`. -/
theorem mem_slot (i : Dev nD) (x : S16x768x384.Idx) : x ∈ (slot i).view.set ↔ (x 0).val = i.val := by
  constructor
  · intro h
    obtain ⟨j, -, rfl⟩ := Finset.mem_map.mp h
    exact (slot_emb_val i j).1
  · intro h
    refine Finset.mem_map.mpr ⟨fun a => match a with | ⟨0, _⟩ => x 1 | ⟨1, _⟩ => x 2, Finset.mem_univ _, ?_⟩
    obtain ⟨h0, h1, h2⟩ := slot_emb_val i (fun a => match a with | ⟨0, _⟩ => x 1 | ⟨1, _⟩ => x 2)
    funext a
    apply Fin.ext
    match a with
    | ⟨0, _⟩ => exact h0.trans h.symm
    | ⟨1, _⟩ => exact h1
    | ⟨2, _⟩ => exact h2

/-- The elements of slot `i`, as elements of `gathered`. -/
def slotSet (i : Dev nD) : Finset S16x768x384.Idx := (slot i).view.set

/-- Different slots share nothing, -/
theorem slot_disjoint (i i' : Dev nD) (h : i ≠ i') : Disjoint (slotSet i) (slotSet i') := by
  rw [Finset.disjoint_left]
  intro x hx hx'
  exact h (Fin.ext (((mem_slot i x).mp hx).symm.trans ((mem_slot i' x).mp hx')))

/-- and together they are the buffer. -/
theorem slot_cover : (Finset.univ : Finset (Dev nD)).biUnion slotSet = Finset.univ := by
  ext x
  simp only [Finset.mem_biUnion, Finset.mem_univ, true_and, iff_true]
  exact ⟨⟨(x 0).val, (x 0).isLt⟩, (mem_slot _ x).mpr rfl⟩

/-! ## The cells -/

/-- The barrier semaphore. -/
abbrev barS : Sem sig := (SemArray.scalar (sig.barrier 0 rfl) : Sems sig S_).sem
/-- Send semaphore for the copy to `pl c r`: number `r + 1` of the sixteen (number 0 is never used). -/
def sndS (r : Fin 15) : DmaSem sig := ⟨4 + r.val, by show 4 + r.val < 35; omega⟩
/-- Receive semaphore for the copy from device `i`. -/
def rcvS (i : Dev nD) : DmaSem sig := ⟨19 + i.val, by have h : i.val < 16 := i.isLt; show 19 + i.val < 35; omega⟩

/-- Device `c`'s barrier semaphore. -/
abbrev barCell (c : Dev nD) : GSem nD τ sig := ((c : Thread nD τ), .reg barS)
/-- Device `c`'s send semaphore for the copy to `pl c r`. -/
abbrev sndCell (c : Dev nD) (r : Fin 15) : GSem nD τ sig := ((c : Thread nD τ), .dma (sndS r))
/-- Device `c`'s receive semaphore for the rows of `i`. -/
abbrev rcvCell (c i : Dev nD) : GSem nD τ sig := ((c : Thread nD τ), .dma (rcvS i))

/-- The send semaphore as the program spells it. -/
theorem snd_sem (off : Fin 1 → ℕ) (h : ∀ a, off a + S1.size a ≤ S16.size a) (r : Fin 15) (ho : off = ![r.val + 1]) :
    ((cc0_scratch2.slice (Rect.unit (s := S16) off S1.size h)).squeeze S_ squeezes_S1_S_).sem = sndS r := by
  subst ho; revert r; decide
/-- The receive semaphore as the program spells it. -/
theorem rcv_sem (off : Fin 1 → ℕ) (h : ∀ a, off a + S1.size a ≤ S16.size a) (i : Dev nD) (ho : off = ![i.val]) :
    ((cc0_scratch3.slice (Rect.unit (s := S16) off S1.size h)).squeeze S_ squeezes_S1_S_).sem = rcvS i := by
  subst ho; revert i; decide

/-- What one copy adds to a semaphore. -/
def N : ℕ := (chM : Memref sig .tc .vmem S768x384 .bf16).view.dmaCredit
/-- A copy counts something, -/
theorem N_pos : 0 < N := View.dmaCredit_pos _ (by decide)
/-- and as much at every slot. -/
theorem slot_credit (off : Fin 3 → ℕ) (h) : (slotAt off h).view.dmaCredit = N := rfl

/-! ## The resources -/

/-- The exchange's own ghost state: cells by thread and semaphore, duties named by `Fin 15`; beside it the pipeline's. -/
abbrev XU : Type := URounds (GSem nD τ sig) (Fin 15)
/-- The pipeline's ghost state and the exchange's. -/
abbrev GU : Type := UR sig nD τ × XU

local notation "𝕄" => MT nD τ sig Unit (Elt F) ℕ GU ℕ

/-- The pipeline's part. -/
abbrev EPipe : Emb (UR sig nD τ) (MT nD τ sig Unit (Elt F) ℕ GU ℕ) := embL
/-- The exchange's part. -/
abbrev EX : Emb XU (MT nD τ sig Unit (Elt F) ℕ GU ℕ) := embR

variable (m : (ℓ : Loc nD τ sig) → Buf (Elt F) ℓ) (ρ : Dev nD → PrngReg)

/-- The state at launch: any memory, all semaphores at zero. -/
def s₀ : MemSt nD τ sig (Elt F) := ⟨m, fun _ => 0, ρ⟩

/-! ## The contents -/

/-- Device `c`'s rows of A, as its first window stages them. -/
def aStg (c : Dev nD) : (cc0_stg0_0 : Ref sig .tc).ty.Contents (Elt F) :=
  (win0_0.blk (0 : Fin 1)).view.read (Elt F) ((s₀ m ρ).mem ((c : Thread nD τ).loc main_arg0))
/-- Device `c`'s copy of B, as its second window stages it. -/
def bStg (c : Dev nD) : (cc0_stg1_0 : Ref sig .tc).ty.Contents (Elt F) :=
  (win0_1.blk (0 : Fin 1)).view.read (Elt F) ((s₀ m ρ).mem ((c : Thread nD τ).loc main_arg1))

/-- What device `i` sends round: its rows of A in the narrow format. -/
def rowsOf (i : Dev nD) : FVec F S768x384 .bf16 := k0_pay1 (aStg m ρ i)
/-- B in the narrow format. -/
abbrev narrowB (c : Dev nD) : FVec F S384x768 .bf16 := k0_pay2 (bStg m ρ c)

/-- The buffer `gathered` once everything has landed: slot `i` holds device `i`'s rows. The same on every device. -/
def allRows : S16x768x384.Idx → Elt F .bf16 := fun x =>
  rowsOf m ρ ⟨(x 0).val, (x 0).isLt⟩ (fun a => match a with | ⟨0, _⟩ => x 1 | ⟨1, _⟩ => x 2)

/-- The rows of the result that come from device `i`, as device `c` computes them. -/
def prodRows (c i : Dev nD) : FVec F S768x768 .f32 := k0_pay3 (narrowB m ρ c) (rowsOf m ρ i)

/-- The result as device `c` computes it: row `n` is row `n % 768` of device `n / 768`'s product. -/
def result (c : Dev nD) : S12288x768.Idx → Elt F .f32 := fun x =>
  prodRows m ρ c ⟨(x 0).val / 768, by have h : (x 0).val < 12288 := (x 0).isLt; show _ < 16; omega⟩
    (fun a => match a with | ⟨0, _⟩ => ⟨(x 0).val % 768, Nat.mod_lt _ (by decide)⟩ | ⟨1, _⟩ => x 1)

/-- Slot `i` of the gathered rows, element by element. -/
theorem allRows_slot (i : Dev nD) (j : S768x384.Idx) : allRows m ρ ((slot i).view.emb j) = rowsOf m ρ i j := by
  obtain ⟨h0, h1, h2⟩ := slot_emb_val i j
  unfold allRows
  congr 1
  · exact Fin.ext h0
  · funext a
    match a with
    | ⟨0, _⟩ => exact Fin.ext h1
    | ⟨1, _⟩ => exact Fin.ext h2

/-- A slot of `gathered` on device `c`, held outright at contents `f`. -/
def slotPts (c i : Dev nD) (f : Buf (Elt F) ((slot i).view.loc (c : Thread nD τ))) : sProp 𝕄 :=
  (slot i).view.loc (c : Thread nD τ) ↦[(slot i).view.set]{fullShare} f
/-- A slot held outright at whatever it holds. -/
def slotAny (c i : Dev nD) : sProp 𝕄 := iprop(∃ f, slotPts (F := F) c i f)
/-- A slot holding device `i`'s rows. -/
def slotFull (c i : Dev nD) : sProp 𝕄 := slotPts c i (allRows m ρ)
/-- A share of `chunk` on device `c`, which holds `c`'s own rows. -/
def chunkAt (q : PosShare TreeShare) (c : Dev nD) : sProp 𝕄 :=
  (chM : Memref sig .tc .vmem S768x384 .bf16).view.loc (c : Thread nD τ) ↦[(chM : Memref sig .tc .vmem S768x384 .bf16).view.set]{q} rowsOf m ρ c
/-- The share of `chunk` that the copy to `pl c r` reads through. -/
abbrev tokShare (r : Fin 15) : PosShare TreeShare := Transfers.shareTok fullShare 15 r
/-- What stays when all fifteen are out. -/
abbrev restShare : PosShare TreeShare := Transfers.shareDrop fullShare 15

/-- A slot at given contents may be kept in an invariant. -/
instance slotPts_storable (c i : Dev nD) (f) : BI.Storable (upEmb : UEmb _ 𝕄) (slotPts (F := F) c i f) := by unfold slotPts; infer_instance
/-- A slot at any contents may be kept in an invariant. -/
instance slotAny_storable (c i : Dev nD) : BI.Storable (upEmb : UEmb _ 𝕄) (slotAny (F := F) c i) := by unfold slotAny; infer_instance
/-- A full slot may. -/
instance slotFull_storable (c i : Dev nD) : BI.Storable (upEmb : UEmb _ 𝕄) (slotFull m ρ c i) := by unfold slotFull; infer_instance
/-- A share of `chunk` may. -/
instance chunkAt_storable (q) (c : Dev nD) : BI.Storable (upEmb : UEmb _ 𝕄) (chunkAt m ρ q c) := by unfold chunkAt; infer_instance

/-- A copy of `chunk` of device `i` landing in slot `i` of device `c` leaves the slot full, whatever it held. -/
theorem landing (c i : Dev nD) (fd : Buf (Elt F) ((slot i).view.loc (c : Thread nD τ))) :
    ((slot i).view.loc (c : Thread nD τ) ↦[(slot i).view.set]{fullShare}
        ((slot i).view.write (Elt F) fd ((chM : Memref sig .tc .vmem S768x384 .bf16).view.read (Elt F) (rowsOf m ρ i)) Finset.univ) : sProp 𝕄)
      ⊢ slotFull m ρ c i := by
  refine Entails.of_eq ?_
  unfold slotFull slotPts
  refine pointsTo_congr fun x hx => ?_
  obtain ⟨j, -, rfl⟩ := Finset.mem_map.mp hx
  exact (View.write_emb_of_mem _ _ (Finset.mem_univ j)).trans (allRows_slot m ρ i j).symm

/-! ## The schedule -/

/-- What is handed over through a DMA cell of device `c`, by the semaphore's number: slots through the receive
    semaphores, shares of `chunk` through the send semaphores. -/
def dmaPay (c : Dev nD) (q : DmaSem sig) : sProp 𝕄 :=
  if h : 19 ≤ q.val then slotFull m ρ c ⟨q.val - 19, by have : q.val < 35 := q.isLt; show _ < 16; omega⟩
  else if h' : 4 ≤ q.val then chunkAt m ρ (tokShare ⟨q.val - 4, by omega⟩) c
  else iprop(emp)

/-- One round. A barrier cell has the fifteen duties, one unit each, duty `r` paid by `pl c r` with slot `c` of
    `pl c r`; a DMA cell one duty of a copy's credit. -/
def plan : Rounds.Schedule (GSem nD τ sig) (Fin 15) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with | .reg _ => slotAny (pl g.1.1 d) g.1.1 | .dma q => dmaPay m ρ g.1.1 q
  amount_pos g _ _ _ := by
    rcases g with ⟨t, s | q⟩
    · exact Nat.one_pos
    · exact N_pos

/-- So everything that the schedule hands over may. -/
instance plan_storable (g : GSem nD τ sig) (r : ℕ) (d : Fin 15) : BI.Storable (upEmb : UEmb _ 𝕄) ((plan (F := F) m ρ).payload g r d) := by
  rcases g with ⟨t, s | q⟩
  · show BI.Storable upEmb (slotAny (pl t.1 d) t.1); infer_instance
  · show BI.Storable upEmb (dmaPay m ρ t.1 q)
    unfold dmaPay
    (repeat' split) <;> infer_instance

section Plan
variable (c i : Dev nD) (r d : Fin 15)

/-- A barrier cell has fifteen duties, -/
theorem duties_bar : (plan (F := F) m ρ).duties (barCell c) 0 = Finset.univ := by dsimp only [plan]; exact if_pos ⟨rfl, rfl⟩
/-- a copy's cell one, -/
theorem duties_dma (q : DmaSem sig) : (plan (F := F) m ρ).duties ((c : Thread nD τ), .dma q) 0 = {0} := by
  dsimp only [plan]; exact if_pos ⟨rfl, rfl⟩
/-- No cell has a duty after the first round. -/
theorem duties_later (g : GSem nD τ sig) : ∀ n, 1 ≤ n → (plan (F := F) m ρ).duties g n = ∅ :=
  fun n hn => by dsimp only [plan]; exact if_neg fun h => by omega
/-- A barrier duty counts one, -/
theorem amount_bar : (plan (F := F) m ρ).amount (barCell c) 0 d = 1 := rfl
/-- a copy's duty what a copy counts; -/
theorem amount_dma (q : DmaSem sig) : (plan (F := F) m ρ).amount ((c : Thread nD τ), .dma q) 0 d = N := rfl
/-- So a barrier cell awaits fifteen. -/
theorem expect_bar : (plan (F := F) m ρ).expect (barCell c) 0 = 15 := by
  unfold Schedule.expect Schedule.amountOf
  rw [duties_bar, Finset.sum_congr rfl fun d _ => amount_bar m ρ c d]; rfl
/-- A copy's cell awaits what a copy counts. -/
theorem expect_dma (q : DmaSem sig) : (plan (F := F) m ρ).expect ((c : Thread nD τ), .dma q) 0 = N := by
  unfold Schedule.expect Schedule.amountOf; rw [duties_dma, Finset.sum_singleton, amount_dma]
/-- Duty `d` of `c`'s barrier cell hands over slot `c` of `pl c d`; -/
theorem pay_bar : (plan (F := F) m ρ).payload (barCell c) 0 d = slotAny (pl c d) c := rfl
/-- a receive cell hands over the full slot, -/
theorem pay_rcv : (plan (F := F) m ρ).payload (rcvCell c i) 0 d = slotFull m ρ c i := by
  show dmaPay m ρ c (rcvS i) = _
  have h : 19 ≤ (rcvS i).val := by show 19 ≤ 19 + i.val; omega
  unfold dmaPay
  rw [dif_pos h]
  congr 1
  apply Fin.ext
  show 19 + i.val - 19 = i.val
  omega
/-- a send cell the share of `chunk` that the copy read through. -/
theorem pay_snd : (plan (F := F) m ρ).payload (sndCell c r) 0 d = chunkAt m ρ (tokShare r) c := by
  show dmaPay m ρ c (sndS r) = _
  have h : ¬ 19 ≤ (sndS r).val := by show ¬ 19 ≤ 4 + r.val; omega
  have h' : 4 ≤ (sndS r).val := by show 4 ≤ 4 + r.val; omega
  unfold dmaPay
  rw [dif_neg h, dif_pos h']
  congr 2
  apply Fin.ext
  show 4 + r.val - 4 = r.val
  omega

/-- All that comes with the barrier wait: slot `c` of every other device. -/
theorem all_bar : bigSep ((plan (F := F) m ρ).duties (barCell c) 0 \ ∅) (fun d => (plan (F := F) m ρ).payload (barCell c) 0 d)
    = bigSep Finset.univ fun r : Fin 15 => slotAny (F := F) (pl c r) c := by
  rw [Finset.sdiff_empty, duties_bar]; rfl
/-- All that comes with a receive wait: the full slot. -/
theorem all_rcv : bigSep ((plan (F := F) m ρ).duties (rcvCell c i) 0 \ ∅) (fun d => (plan (F := F) m ρ).payload (rcvCell c i) 0 d)
    = slotFull m ρ c i := by rw [Finset.sdiff_empty, duties_dma, bigSep_singleton, pay_rcv]
/-- All that comes with a send wait: the share of `chunk`. -/
theorem all_snd : bigSep ((plan (F := F) m ρ).duties (sndCell c r) 0 \ ∅) (fun d => (plan (F := F) m ρ).payload (sndCell c r) 0 d)
    = chunkAt m ρ (tokShare r) c := by rw [Finset.sdiff_empty, duties_dma, bigSep_singleton, pay_snd]

end Plan

/-! ## What a device owes -/

/-- The copies device `c` has yet to make, over a list: a copy's credit to the receive cell `c` of each. -/
def owedRcv (c : Dev nD) : List (Fin 15) → CellTallies nD τ sig Unit
  | [] => 0
  | r :: l => owedRcv c l + tallyAt (rcvCell (pl c r) c) () N
/-- All the copies, and the signals it has yet to make, over a list: one unit to the barrier cell of each. -/
def owedBar (c : Dev nD) : List (Fin 15) → CellTallies nD τ sig Unit
  | [] => owedRcv c ord
  | r :: l => owedBar c l + tallyAt (barCell (pl c r)) () 1
/-- What device `c` owes at launch. -/
def owed₀ (c : Dev nD) : CellTallies nD τ sig Unit := owedBar c ord

/-- What is owed to a cell of the copies yet to make: a copy for each on the list that goes there. -/
theorem owedRcv_apply (c : Dev nD) (g : GSem nD τ sig) (l : List (Fin 15)) :
    owedRcv c l g () = (l.map fun r => if g = rcvCell (pl c r) c then N else 0).sum := by
  induction l with
  | nil => rfl
  | cons r l ih =>
    unfold owedRcv
    rw [Pi.add_apply, Finsupp.add_apply, ih, tallyAt_apply, List.map_cons, List.sum_cons, Nat.add_comm]
    simp

/-- What is owed to a cell of the signals yet to make: one for each on the list that goes there, and what is owed of all the copies. -/
theorem owedBar_apply (c : Dev nD) (g : GSem nD τ sig) (l : List (Fin 15)) :
    owedBar c l g () = (l.map fun r => if g = barCell (pl c r) then 1 else 0).sum + owedRcv c ord g () := by
  induction l with
  | nil => simp [owedBar]
  | cons r l ih =>
    unfold owedBar
    rw [Pi.add_apply, Finsupp.add_apply, ih, tallyAt_apply, List.map_cons, List.sum_cons]
    simp only [and_true]
    omega

/-- Copies are owed to receive cells alone; -/
theorem owedRcv_pos {c : Dev nD} {l : List (Fin 15)} {g : GSem nD τ sig} {u : Unit} (h : 0 < owedRcv c l g u) : ∃ r, g = rcvCell (pl c r) c := by
  cases u
  rw [owedRcv_apply] at h
  by_contra hn
  have hn' : ∀ r, g ≠ rcvCell (pl c r) c := fun r hr => hn ⟨r, hr⟩
  simp [hn'] at h

/-- and signals to barrier cells. -/
theorem owedBar_pos {c : Dev nD} {l : List (Fin 15)} {g : GSem nD τ sig} {u : Unit} (h : 0 < owedBar c l g u) :
    (∃ r, g = barCell (pl c r)) ∨ ∃ r, g = rcvCell (pl c r) c := by
  cases u
  by_contra hn
  rw [not_or] at hn
  have hn' : ∀ r, g ≠ barCell (pl c r) := fun r hr => hn.1 ⟨r, hr⟩
  rw [owedBar_apply] at h
  have h0 : (l.map fun r => if g = barCell (pl c r) then 1 else 0).sum = 0 := by simp [hn']
  rw [h0, Nat.zero_add] at h
  exact hn.2 (owedRcv_pos h)

/-- The one label of every cell of a device's own thread. -/
def lab (g : GSem nD τ sig) : Finset Unit := if g.1.2 = .tc then {()} else ∅
/-- The order in which waits may wait for one another: receive cells above barrier cells above the rest. -/
def lev (g : GSem nD τ sig) (_ : Unit) : ℕ := match g.2 with | .reg _ => 1 | .dma q => if 19 ≤ q.val then 2 else 0

/-- No cell off the main cores is labelled; -/
theorem lab_ne (g : GSem nD τ sig) (h : g.1.2 ≠ .tc) : lab g = ∅ := if_neg h
/-- every cell on them is. -/
theorem lab_tc (c : Dev nD) (sm : SemLoc sig) : lab ((c : Thread nD τ), sm) = {()} := if_pos rfl
/-- Receive cells come last, -/
theorem lev_rcv (c i : Dev nD) (u : Unit) : lev (rcvCell c i) u = 2 := if_pos (by show 19 ≤ 19 + i.val; omega)
/-- after the barrier cells. -/
theorem lev_bar (c : Dev nD) (u : Unit) : lev (barCell c) u = 1 := rfl

/-- A staging wait is below everything a device owes. -/
theorem mayWait_stage (c : Dev nD) (q : DmaSem sig) (hq : q.val < 19) (O : CellTallies nD τ sig Unit) (hO : O = owed₀ c ∨ O = 0) :
    (levAts lab lev : sProp 𝕄) ⊢ MayWait (c : Thread nD τ) (.dma q) () O := by
  rcases hO with rfl | rfl
  · refine MayOwe.of_cut (L := lab) (lev := lev) 0 (fun p hp => by rw [Finset.mem_singleton.mp hp, lab_tc]; exact Finset.mem_singleton_self _)
      (fun g u hg => by rcases owedBar_pos hg with ⟨r, rfl⟩ | ⟨r, rfl⟩ <;> exact Finset.mem_singleton_self _)
      (fun p hp => by
        rw [Finset.mem_singleton.mp hp]; show (if 19 ≤ q.val then 2 else 0) ≤ 0
        rw [if_neg (by omega)])
      (fun g u hg => by
        rcases owedBar_pos hg with ⟨r, rfl⟩ | ⟨r, rfl⟩
        · rw [lev_bar]; decide
        · rw [lev_rcv]; decide)
  · rw [MayWait_zero]; iintro -; iempintro

/-- The barrier wait is below the receive cells, all that a device owes there. -/
theorem mayWait_bar (c : Dev nD) (l : List (Fin 15)) :
    (levAts lab lev : sProp 𝕄) ⊢ MayWait (c : Thread nD τ) (.reg barS) () (owedRcv c l) :=
  MayOwe.of_cut (L := lab) (lev := lev) 1 (fun p hp => by rw [Finset.mem_singleton.mp hp, lab_tc]; exact Finset.mem_singleton_self _)
    (fun g u hg => by obtain ⟨r, rfl⟩ := owedRcv_pos hg; exact Finset.mem_singleton_self _)
    (fun p hp => by rw [Finset.mem_singleton.mp hp]; exact le_of_eq rfl)
    (fun g u hg => by obtain ⟨r, rfl⟩ := owedRcv_pos hg; rw [lev_rcv]; decide)

end Cert.Gather

end
-- ==== Proof.Steps.lean ====
/-
The kernel's effects, one rule for each kind, at a symbolic device `c` and a symbolic distance `r`.

Every phase of the kernel goes down a list of distances; what it holds is a conjunction over the distances still to
come and one over those already done, and a rule takes the head of the first to the second.
-/
module

public import proofs.«01_k».proof.Proof.Plan
public import Idealize.ShloMosaic.Lib.Pipeline.BigSepL

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GU ℕ

variable (m : (ℓ : Loc nD τ sig) → Buf (Elt F) ℓ) (ρ : Dev nD → PrngReg)

/-- No loop needs a measure. -/
abbrev noVariants : Variants := Variants.none

/-- The weakest precondition of a piece of device `c`'s kernel. -/
abbrev runs (c : Dev nD) {α : Type} (p : Prog (TpuEff nD τ sig (Elt F) Λ₀ .tc) α) (Q : α → sProp 𝕄) : sProp 𝕄 :=
  wp frame (wpE (defs₀ (F := F)) noVariants (c : Thread nD τ) none) Set.univ p Q

/-! ## What is known throughout -/

/-- A device's own cells: its barrier cell, its fifteen send cells, its fifteen receive cells. -/
abbrev Ci : Type := Unit ⊕ (Fin 15 ⊕ Fin 15)
/-- Which semaphore it is. -/
abbrev ciSem (c : Dev nD) : Ci → SemLoc sig
  | .inl _ => .reg barS
  | .inr (.inl r) => .dma (sndS r)
  | .inr (.inr r) => .dma (rcvS (pl c r))
/-- The cell itself. -/
abbrev cell (x : Dev nD × Ci) : GSem nD τ sig := ((x.1 : Thread nD τ), ciSem x.1 x.2)

/-- Every cell is in the plan, under the names `K`, and has reached its one round. -/
def known (K : Dev nD × Ci → ℕ) : sProp 𝕄 :=
  iprop((bigSep Finset.univ fun x : Dev nD × Ci => cellInv EX (plan m ρ) (K x) (cell x))
    ∗ bigSep Finset.univ fun x : Dev nD × Ci => reached EX (cell x) 0)

/-- What is known of all cells may be used any number of times. -/
instance known_persistent (K : Dev nD × Ci → ℕ) : BI.Persistent (known m ρ K) := by unfold known; infer_instance

/-- What is known of one cell. -/
def knownAt (g : GSem nD τ sig) : sProp 𝕄 := iprop(∃ κ : ℕ, cellInv EX (plan m ρ) κ g ∗ reached EX g 0)

/-- What is known of one cell may be used any number of times. -/
instance knownAt_persistent (g : GSem nD τ sig) : BI.Persistent (knownAt m ρ g) := by unfold knownAt; infer_instance

variable (K : Dev nD × Ci → ℕ)

/-- One cell's invariant out of all. -/
theorem inv_of (x : Dev nD × Ci) :
    (bigSep Finset.univ fun x : Dev nD × Ci => (cellInv EX (plan m ρ) (K x) (cell x) : sProp 𝕄)) ⊢ cellInv EX (plan m ρ) (K x) (cell x) :=
  bigSep_elim (Finset.mem_univ x)
/-- One cell's round out of all. -/
theorem reached_of (x : Dev nD × Ci) :
    (bigSep Finset.univ fun x : Dev nD × Ci => (reached EX (cell x) 0 : sProp 𝕄)) ⊢ reached EX (cell x) 0 :=
  bigSep_elim (Finset.mem_univ x)

/-- What is known of all cells is known of each. -/
theorem known_cell (x : Dev nD × Ci) : known m ρ K ⊢ knownAt m ρ (cell x) := by
  unfold known knownAt
  iintro ⟨#HI, #HR⟩
  iexists K x
  isplitr
  · iapply inv_of m ρ K x; iexact HI
  · iapply reached_of x; iexact HR

/-- What is known of the barrier cells. -/
theorem known_bar (c : Dev nD) : known m ρ K ⊢ knownAt m ρ (barCell c) := known_cell m ρ K (c, .inl ())
/-- What is known of the send cells. -/
theorem known_snd (c : Dev nD) (r : Fin 15) : known m ρ K ⊢ knownAt m ρ (sndCell c r) := known_cell m ρ K (c, .inr (.inl r))
/-- What is known of the receive cells. -/
theorem known_rcv (c : Dev nD) (r : Fin 15) : known m ρ K ⊢ knownAt m ρ (rcvCell c (pl c r)) := known_cell m ρ K (c, .inr (.inr r))
/-- The receive cell for `c` on another device is that device's cell for the way back. -/
theorem known_dst (c : Dev nD) (r : Fin 15) : known m ρ K ⊢ knownAt m ρ (rcvCell (pl c r) c) := by
  have h := known_rcv m ρ K (pl c r) (rv r)
  rwa [pl_rv] at h

/-- Device `c` owes `O`, whatever it has waited for. -/
def owing (c : Dev nD) (O : CellTallies nD τ sig Unit) : sProp 𝕄 := iprop(∃ W, owes (c : Thread nD τ) O W)

/-! ## Signalling -/

/-- Signals yet to make over `l`: the duty at `pl c r`'s barrier cell that `c` pays, and `c`'s slot for `pl c r`. -/
def signals (c : Dev nD) (l : List (Fin 15)) : sProp 𝕄 :=
  iprop(owing c (owedBar c l) ∗ bigSepL l fun r => iprop(dutyTok EX (barCell (pl c r)) 0 (rv r) ∗ slotAny (F := F) c (pl c r)))

/-- Signalling `pl c r` pays the duty there, and gives it `c`'s slot for it. -/
theorem step_signal (c : Dev nD) (r : Fin 15) (l : List (Fin 15)) (n : Dev nD) (hn : n = pl c r) {α : Type} {Q : α → sProp 𝕄}
    {k : PUnit → Prog (TpuEff nD τ sig (Elt F) Λ₀ .tc) α} :
    iprop(known m ρ K ∗ signals c (r :: l))
      ⊢ iprop((signals c l -∗ runs c (k ⟨⟩) Q) -∗ runs c (.op (.semSignal (n, .tc) barS (1#32 : BitVec 32).toInt) k) Q) := by
  subst hn
  unfold signals owing
  rw [bigSepL_cons']
  iintro ⟨#HK, ⟨%W, HO⟩, ⟨Ht, Hs⟩, Hl⟩ Hk
  ihave HB := (known_bar m ρ K (pl c r)) $$ HK
  unfold knownAt
  icases HB with ⟨%κ, #HI, #HR⟩
  iapply (Rounds.wp_signal noVariants EX (plan m ρ) (c : Thread nD τ) none (dst := (pl c r : Thread nD τ)) (κ := κ)
      (d := rv r) (by rw [duties_bar]; exact Finset.mem_univ _) ((amount_bar m ρ (pl c r) (rv r)).trans (by decide)) () (owedBar c l) rfl)
    $$ [HO Ht Hs]
  · isplitr; · iexact HI
    isplitl [HO]; · iexact HO
    isplitl [Ht]; · iexact Ht
    isplitl [Hs]
    · rw [pay_bar, pl_rv]; iexact Hs
    iexact HR
  iintro HO
  iapply Hk
  isplitl [HO]; · iexists W; iexact HO
  iexact Hl

/-- The barrier wait: every other device's slot `c` comes with it. -/
theorem step_barrier (c : Dev nD) {α : Type} {Q : α → sProp 𝕄} {k : PUnit → Prog (TpuEff nD τ sig (Elt F) Λ₀ .tc) α} :
    iprop(known m ρ K ∗ levAts lab lev ∗ signals c [] ∗ cred (tallyAt (barCell c) () 15) ∗ atPos EX (barCell c) 0 ∅ 0)
      ⊢ iprop(((owing c (owedRcv c ord) ∗ atPos EX (barCell c) 1 ∅ 0 ∗ bigSepL ord fun r => slotAny (F := F) (pl c r) c) -∗ runs c (k ⟨⟩) Q)
        -∗ runs c (.op (.semWait barS (15#32 : BitVec 32).toInt) k) Q) := by
  unfold signals owing
  iintro ⟨#HK, #Hlev, ⟨⟨%W, HO⟩, -⟩, Hc, Hat⟩ Hk
  ihave HB := (known_bar m ρ K c) $$ HK
  unfold knownAt
  icases HB with ⟨%κ, #HI, #HR⟩
  iapply (Rounds.wp_wait_rest_token noVariants EX (plan m ρ) (c : Thread nD τ) none (κ := κ)
      (wpE_semWait_eq noVariants (c : Thread nD τ) none Set.univ) (Set.mem_univ _) () (O := owedRcv c ord) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c ord); iexact Hlev
    iexact Hat
  iintro ⟨HO, Hat, -, Hpay⟩
  ihave Hp := (Entails.of_eq ((all_bar m ρ c).trans (bigSep_univ_eq_bigSepL ord ord_univ ord_nodup _))) $$ Hpay
  iapply Hk
  isplitl [HO]; · iexists (insert (SemLoc.reg barS, ()) W); iexact HO
  isplitl [Hat]; · iexact Hat
  iexact Hp

/-! ## Copying -/

/-- Copies yet to make over `l` — the two duties the copy to `pl c r` pays, slot `c` of `pl c r`, the share of `chunk` it reads
    through — and the send credits of those started, over `d`. -/
def copies (c : Dev nD) (l d : List (Fin 15)) : sProp 𝕄 :=
  iprop(owing c (owedRcv c l)
    ∗ (bigSepL l fun r => iprop(dutyTok EX (sndCell c r) 0 0 ∗ dutyTok EX (rcvCell (pl c r) c) 0 0 ∗ slotAny (F := F) (pl c r) c ∗ chunkAt m ρ (tokShare r) c))
    ∗ bigSepL d fun r => cred (tallyAt (sndCell c r) () N))

/-- Starting the copy to `pl c r`: a share of `chunk` and the slot over there go into it, and its send credit comes out. -/
theorem step_copy (c : Dev nD) (r : Fin 15) (l d : List (Fin 15)) (n : Dev nD) (hn : n = pl c r)
    (off : Fin 3 → ℕ) (h : ∀ a, off a + S1x768x384.size a ≤ S16x768x384.size a) (ho : off = ![c.val, 0, 0])
    (s₁ s₂ : DmaSem sig) (h₁ : s₁ = sndS r) (h₂ : s₂ = rcvS c)
    {hsc : (slotAt off h : Memref sig (Dev.tc n : Thread nD τ).2.kind .vmem S768x384 .bf16).view.ref.isScScratch = false}
    {hsrc : (chM : Memref sig .tc .vmem S768x384 .bf16).view.WordExact} {hdst : (slotAt off h).view.WordExact}
    {hsem : DmaTarget.Typed .vmem (.dma s₂) (.remote (Dev.tc n : Thread nD τ) (slotAt off h) (.dma s₁) hsc)}
    {α : Type} {Q : α → sProp 𝕄} {k : PUnit → Prog (TpuEff nD τ sig (Elt F) Λ₀ .tc) α} :
    iprop(known m ρ K ∗ copies m ρ c (r :: l) d)
      ⊢ iprop((copies m ρ c l (r :: d) -∗ runs c (k ⟨⟩) Q)
        -∗ runs c (.op (.enqueueDma chM (.remote (Dev.tc n : Thread nD τ) (slotAt off h) (.dma s₁) hsc) (.dma s₂) hsrc hdst hsem) k) Q) := by
  subst hn ho h₁ h₂
  unfold copies owing
  rw [bigSepL_cons', bigSepL_cons']
  iintro ⟨#HK, ⟨%W, HO⟩, ⟨⟨Ht, Ht', Hs, Hch⟩, Hl⟩, Hd⟩ Hk
  ihave HS := (known_snd m ρ K c r) $$ HK
  ihave HV := (known_dst m ρ K c r) $$ HK
  unfold knownAt
  icases HS with ⟨%κ, #HI, #HR⟩
  icases HV with ⟨%κ', #HI', #HR'⟩
  unfold slotAny slotPts chunkAt
  icases Hs with ⟨%f, Hs⟩
  iapply (Rounds.wp_send_pointsTo noVariants EX (plan m ρ) (c : Thread nD τ) none (κ₁ := κ) (κ₂ := κ')
      (r₁ := 0) (r₂ := 0) (d₁ := 0) (d₂ := 0) (fd := f)
      (by rw [duties_dma]; exact Finset.mem_singleton_self _) (by rw [duties_dma]; exact Finset.mem_singleton_self _)
      () () N rfl (amount_dma m ρ c 0 (sndS r)) (amount_dma m ρ (pl c r) 0 (rcvS c)) (owedRcv c l) rfl (W := W)
      (by rw [pay_snd]; unfold chunkAt; exact BI.Entails.refl _)
      (by rw [pay_rcv]; exact landing m ρ (pl c r) c f)) $$ [HO Ht Ht' Hs Hch]
  · isplitr; · iexact HI
    isplitr; · iexact HI'
    isplitl [Hch]; · iexact Hch
    isplitl [Hs]; · iexact Hs
    isplitl [HO]; · iexact HO
    isplitl [Ht]; · iexact Ht
    isplitr; · iexact HR
    isplitl [Ht']; · iexact Ht'
    iexact HR'
  iintro ⟨Hc, HO⟩
  iapply Hk
  isplitl [HO]; · iexists W; iexact HO
  isplitl [Hl]; · iexact Hl
  isplitl [Hc]; · iexact Hc
  iexact Hd

/-! ## Receiving -/

/-- Rows yet to wait for over `l`, and slots come full over `d`. -/
def arrivals (c : Dev nD) (l d : List (Fin 15)) : sProp 𝕄 :=
  iprop(owing c 0
    ∗ (bigSepL l fun r => iprop(cred (tallyAt (rcvCell c (pl c r)) () N) ∗ atPos EX (rcvCell c (pl c r)) 0 ∅ 0))
    ∗ bigSepL d fun r => iprop(atPos EX (rcvCell c (pl c r)) 1 ∅ 0 ∗ slotFull m ρ c (pl c r)))

/-- Waiting for the rows of `pl c r`: their slot comes back full. -/
theorem step_arrive (c : Dev nD) (r : Fin 15) (l d : List (Fin 15))
    (off : Fin 3 → ℕ) (h : ∀ a, off a + S1x768x384.size a ≤ S16x768x384.size a) (s : DmaSem sig) (hs : s = rcvS (pl c r))
    {hsrc : (chM : Memref sig .tc .vmem S768x384 .bf16).view.WordExact} {hdst : (slotAt off h).view.WordExact}
    {α : Type} {Q : α → sProp 𝕄} {k : PUnit → Prog (TpuEff nD τ sig (Elt F) Λ₀ .tc) α} :
    iprop(known m ρ K ∗ arrivals m ρ c (r :: l) d)
      ⊢ iprop((arrivals m ρ c l (r :: d) -∗ runs c (k ⟨⟩) Q)
        -∗ runs c (.op (.waitDma2 s chM (slotAt off h) hsrc hdst) k) Q) := by
  subst hs
  unfold arrivals owing
  rw [bigSepL_cons', bigSepL_cons']
  iintro ⟨#HK, ⟨%W, HO⟩, ⟨⟨Hc, Hat⟩, Hl⟩, Hd⟩ Hk
  ihave HV := (known_rcv m ρ K c r) $$ HK
  unfold knownAt
  icases HV with ⟨%κ, #HI, #HR⟩
  iapply (Rounds.wp_wait_rest_token noVariants EX (plan m ρ) (c : Thread nD τ) none (κ := κ)
      (wpE_waitDma2_eq noVariants (c : Thread nD τ) none Set.univ) (Set.mem_univ _) () (O := 0) (W := W) (R := 0) (m := 0) (T := ∅)
      (by rw [Nat.zero_add, expect_dma, slot_credit])) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (all_rcv m ρ c (pl c r))) $$ Hpay
  iapply Hk
  isplitl [HO]; · iexists (insert (SemLoc.dma (rcvS (pl c r)), ()) W); iexact HO
  isplitl [Hl]; · iexact Hl
  isplitl [Hat Hp]
  · isplitl [Hat] <;> iassumption
  iexact Hd

/-- What a load of slot `i` reads when the slot is full. -/
def slotRead (i : Dev nD) : Vec F S1x768x384 .bf16 :=
  (gM : Memref sig .tc .vmem S16x768x384 .bf16).view.readAt (Elt F)
    (Rect.unit (s := S16x768x384) ![i.val, 0, 0] S1x768x384.size (slot_fits i)).toLoadRect (allRows m ρ)

/-- It is device `i`'s rows, under a leading axis of size one. -/
theorem slotRead_eq (i : Dev nD) (hc : S1x768x384.ShapeCasts S768x384) : shapeCast S768x384 (slotRead m ρ i) hc = rowsOf m ρ i := by
  refine Eq.trans (Memref.read_squeeze_slice (Val := Elt F) gM
    (Rect.unit (s := S16x768x384) ![i.val, 0, 0] S1x768x384.size (slot_fits i)) (fun _ => rfl) squeezes_S1x768x384_S768x384 hc (allRows m ρ)).symm ?_
  funext j
  exact allRows_slot m ρ i j

/-- Loading slot `i` touches only slot `i`. -/
theorem slot_loaded (i : Dev nD) (h : ∀ a, (![i.val, 0, 0] : Fin 3 → ℕ) a + S1x768x384.size a ≤ S16x768x384.size a) :
    (gM : Memref sig .tc .vmem S16x768x384 .bf16).view.setOn (Rect.unit (s := S16x768x384) ![i.val, 0, 0] S1x768x384.size h).toLoadRect.set
      ⊆ (slot i).view.set := by
  have e : (gM.access (Rect.unit (s := S16x768x384) ![i.val, 0, 0] S1x768x384.size h) : View sig .tc _ _ _).set ⊆ (slot i).view.set :=
    (View.set_reshape (gM.access (Rect.unit (s := S16x768x384) ![i.val, 0, 0] S1x768x384.size h) : View sig .tc _ _ _) _).symm.subset
  rwa [View.set_slice] at e

/-- The load of a slot that has just come full. -/
theorem step_read (c : Dev nD) (r : Fin 15) (l d : List (Fin 15))
    (off : Fin 3 → ℕ) (h : ∀ a, off a + S1x768x384.size a ≤ S16x768x384.size a) (ho : off = ![(pl c r).val, 0, 0])
    {hl : (gM : Memref sig .tc .vmem S16x768x384 .bf16).view.LoadsAt (Rect.unit (s := S16x768x384) off S1x768x384.size h).toLoadRect}
    {α : Type} {Q : α → sProp 𝕄} {k : Vec F S1x768x384 .bf16 → Prog (TpuEff nD τ sig (Elt F) Λ₀ .tc) α} :
    arrivals m ρ c l (r :: d)
      ⊢ iprop((arrivals m ρ c l (r :: d) -∗ runs c (k (slotRead m ρ (pl c r))) Q)
        -∗ runs c (.op (.load gM (Rect.unit (s := S16x768x384) off S1x768x384.size h).toLoadRect hl) k) Q) := by
  subst ho
  unfold arrivals slotFull slotPts
  rw [bigSepL_cons']
  iintro ⟨HO, Hl, ⟨Hat, Hs⟩, Hd⟩ Hk
  iapply (wp_load noVariants (c : Thread nD τ) none Set.univ (m := gM) (S := (slot (pl c r)).view.set)
    (r := (Rect.unit (s := S16x768x384) ![(pl c r).val, 0, 0] S1x768x384.size h).toLoadRect)
    (f := allRows m ρ) (slot_loaded (pl c r) h)) $$ Hs
  iintro Hs
  iapply Hk
  isplitl [HO]; · iexact HO
  isplitl [Hl]; · iexact Hl
  isplitl [Hat Hs]
  · isplitl [Hat] <;> iassumption
  iexact Hd

/-! ## The result -/

/-- Block `i` of rows lies within the result. -/
theorem rows_fit (i : Dev nD) : ∀ a, (![768 * i.val, 0] : Fin 2 → ℕ) a + S768x768.size a ≤ S12288x768.size a := by
  have : i.val < 16 := i.isLt
  intro a; fin_cases a <;> simp [S768x768, S12288x768]; omega

/-- The result's buffer, right on the rows of the devices in `is`. -/
def written (c : Dev nD) (is : List (Dev nD)) : sProp 𝕄 :=
  iprop(∃ f : Buf (Elt F) ((c : Thread nD τ).loc cc0_stg2_0),
    ⌜∀ i ∈ is, ∀ x : S12288x768.Idx, (x 0).val / 768 = i.val → (f : S12288x768.Idx → Elt F .f32) x = result m ρ c x⌝
      ∗ (((c : Thread nD τ).loc cc0_stg2_0) ↦{fullShare} f))

/-- The kernel reads the rows it is about to overwrite; nothing depends on what it reads. -/
theorem step_peek (c : Dev nD) (is : List (Dev nD)) (r : LoadRect S12288x768)
    {hl : (oM : Memref sig .tc .vmem S12288x768 .f32).view.LoadsAt r}
    {α : Type} {Q : α → sProp 𝕄} {k : (r.shape.Idx → Elt F .f32) → Prog (TpuEff nD τ sig (Elt F) Λ₀ .tc) α} :
    written m ρ c is
      ⊢ iprop((∀ v, written m ρ c is -∗ runs c (k v) Q) -∗ runs c (.op (.load oM r hl) k) Q) := by
  unfold written
  iintro ⟨%f, %hf, Ho⟩ Hk
  iapply (wp_load noVariants (c : Thread nD τ) none Set.univ (m := oM) (Finset.subset_univ _)) $$ Ho
  iintro Ho
  iapply Hk
  iexists f
  isplitr; · ipureintro; exact hf
  iexact Ho

/-- Writing device `i`'s product into its rows leaves the rows already written as they were. -/
theorem write_rows (c i : Dev nD) (is : List (Dev nD)) (f : S12288x768.Idx → Elt F .f32)
    (hf : ∀ i ∈ is, ∀ x : S12288x768.Idx, (x 0).val / 768 = i.val → f x = result m ρ c x) :
    ∀ i' ∈ i :: is, ∀ x : S12288x768.Idx, (x 0).val / 768 = i'.val →
      (oM.access (Rect.unit (s := S12288x768) ![768 * i.val, 0] S768x768.size (rows_fit i)) : View sig .tc _ _ _).write (Elt F) f (prodRows m ρ c i) Finset.univ x
        = result m ρ c x := by
  intro i' hi' x hx
  by_cases hi : (x 0).val / 768 = i.val
  · have hx' : x = (oM.access (Rect.unit (s := S12288x768) ![768 * i.val, 0] S768x768.size (rows_fit i)) : View sig .tc _ _ _).emb
        (fun a => match a with | ⟨0, _⟩ => ⟨(x 0).val % 768, Nat.mod_lt _ (by decide)⟩ | ⟨1, _⟩ => x 1) := by
      funext a
      apply Fin.ext
      match a with
      | ⟨0, _⟩ => show (x 0).val = 768 * i.val + 1 * ((x 0).val % 768); omega
      | ⟨1, _⟩ => show (x 1).val = 0 + 1 * (x 1).val; omega
    refine (congrArg _ hx').trans ((View.write_emb_of_mem _ _ (Finset.mem_univ _)).trans ?_)
    have e : i = ⟨(x 0).val / 768, by rw [hi]; exact i.isLt⟩ := Fin.ext hi.symm
    show prodRows m ρ c i _ = prodRows m ρ c _ _
    rw [← e]
    congr 1
    funext a
    match a with
    | ⟨0, _⟩ => rfl
    | ⟨1, _⟩ => rfl
  · have hmem : i' ∈ is := by
      rcases List.mem_cons.mp hi' with rfl | h
      · exact absurd hx hi
      · exact h
    refine (View.write_of_not_mem _ _ _ ?_).trans (hf i' hmem x hx)
    intro hin
    obtain ⟨j, -, hj⟩ := Finset.mem_map.mp hin
    apply hi
    have h0 : (x 0).val = 768 * i.val + 1 * (j 0).val := congrArg (fun y : S12288x768.Idx => (y 0).val) hj.symm
    have h1 : (j 0).val < 768 := (j 0).isLt
    omega

/-- Storing device `i`'s product puts its rows among the written ones. -/
theorem step_write (c i : Dev nD) (is : List (Dev nD))
    (off : Fin 2 → ℕ) (h : ∀ a, off a + S768x768.size a ≤ S12288x768.size a) (ho : off = ![768 * i.val, 0])
    (w : Vec F S768x768 .f32) (hw : w = prodRows m ρ c i)
    {hx : (oM.access (Rect.unit (s := S12288x768) off S768x768.size h) : View sig .tc _ _ _).Stores Finset.univ}
    {hm : (Finset.univ : Finset (Rect.unit (s := S12288x768) off S768x768.size h).shape.Idx) = Finset.univ ∨ ∀ a, (Rect.unit (s := S12288x768) off S768x768.size h).stride a = 1}
    {α : Type} {Q : α → sProp 𝕄} {k : PUnit → Prog (TpuEff nD τ sig (Elt F) Λ₀ .tc) α} :
    written m ρ c is
      ⊢ iprop((written m ρ c (i :: is) -∗ runs c (k ⟨⟩) Q)
        -∗ runs c (.op (.store oM (Rect.unit (s := S12288x768) off S768x768.size h) w Finset.univ hx hm) k) Q) := by
  subst ho hw
  unfold written
  iintro ⟨%f, %hf, Ho⟩ Hk
  iapply (wp_store noVariants (c : Thread nD τ) none Set.univ (m := oM) (r := Rect.unit (s := S12288x768) ![768 * i.val, 0] S768x768.size h)
    (Mk := Finset.univ) (Finset.subset_univ _)) $$ Ho
  iintro Ho
  iapply Hk
  iexists _
  isplitr; · ipureintro; exact write_rows m ρ c i is f hf
  iexact Ho

/-! ## The copies' sources back -/

/-- Send cells yet to wait for over `l`, and shares of `chunk` back over `d`. -/
def returns (c : Dev nD) (l d : List (Fin 15)) : sProp 𝕄 :=
  iprop(owing c 0
    ∗ (bigSepL l fun r => iprop(cred (tallyAt (sndCell c r) () N) ∗ atPos EX (sndCell c r) 0 ∅ 0))
    ∗ bigSepL d fun r => iprop(atPos EX (sndCell c r) 1 ∅ 0 ∗ chunkAt m ρ (tokShare r) c))

/-- Waiting for the copy to `pl c r` to be read out: the share of `chunk` comes back. -/
theorem step_return (c : Dev nD) (r : Fin 15) (l d : List (Fin 15))
    (off : Fin 3 → ℕ) (h : ∀ a, off a + S1x768x384.size a ≤ S16x768x384.size a) (s : DmaSem sig) (hs : s = sndS r)
    {hsrc : (slotAt off h).view.WordExact} {hdst : (chM : Memref sig .tc .vmem S768x384 .bf16).view.WordExact}
    {α : Type} {Q : α → sProp 𝕄} {k : PUnit → Prog (TpuEff nD τ sig (Elt F) Λ₀ .tc) α} :
    iprop(known m ρ K ∗ returns m ρ c (r :: l) d)
      ⊢ iprop((returns m ρ c l (r :: d) -∗ runs c (k ⟨⟩) Q)
        -∗ runs c (.op (.waitDma2 s (slotAt off h) chM hsrc hdst) k) Q) := by
  subst hs
  unfold returns owing
  rw [bigSepL_cons', bigSepL_cons']
  iintro ⟨#HK, ⟨%W, HO⟩, ⟨⟨Hc, Hat⟩, Hl⟩, Hd⟩ Hk
  ihave HV := (known_snd m ρ K c r) $$ HK
  unfold knownAt
  icases HV with ⟨%κ, #HI, #HR⟩
  iapply (Rounds.wp_wait_rest_token noVariants EX (plan m ρ) (c : Thread nD τ) none (κ := κ)
      (wpE_waitDma2_eq noVariants (c : Thread nD τ) none Set.univ) (Set.mem_univ _) () (O := 0) (W := W) (R := 0) (m := 0) (T := ∅)
      (by rw [Nat.zero_add, expect_dma]; rfl)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hp := (Entails.of_eq (all_snd m ρ c r)) $$ Hpay
  iapply Hk
  isplitl [HO]; · iexists (insert (SemLoc.dma (sndS r), ()) W); iexact HO
  isplitl [Hl]; · iexact Hl
  isplitl [Hat Hp]
  · isplitl [Hat] <;> iassumption
  iexact Hd

end Cert.Gather

end
-- ==== Proof.Parts.lean ====
/-
The kernel's body piece by piece, as it is printed, at a symbolic device: what each piece takes and what it leaves.

Each statement is a rule for a piece in front of anything: from what it takes, and from what follows given what it leaves,
the weakest precondition of the piece. Its words are whatever they are; only devices, offsets and contents matter.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GU ℕ

variable (m : (ℓ : Loc nD τ sig) → Buf (Elt F) ℓ) (ρ : Dev nD → PrngReg) (K : Dev nD × Ci → ℕ)

/-! ## How the program spells devices, offsets and products -/

/-- `o = r + 1` places on is `pl c r`. -/
theorem dev_pl (c : Dev nD) (r : Fin 15) {v : ℕ} (h : v < nD) (e : v = (c.val + (r.val + 1)) % 16) : (⟨v, h⟩ : Dev nD) = pl c r :=
  Fin.ext (e.trans (by rw [← Nat.add_assoc]; rfl))

/-- The slots and rows the program computes are those of `pl c r`: the slot it waits for, -/
theorem off5_pl (c : Dev nD) (r : Fin 15) : k0_off5 c (BitVec.ofNat 32 (1 + r.val)) = ![(pl c r).val, 0, 0] := k0_off5_eq c r
/-- the slot it loads, -/
theorem off6_pl (c : Dev nD) (r : Fin 15) : k0_off6 c (BitVec.ofNat 32 (1 + r.val)) = ![(pl c r).val, 0, 0] := k0_off6_eq c r
/-- and the rows it stores. -/
theorem off7_pl (c : Dev nD) (r : Fin 15) : k0_off7 c (BitVec.ofNat 32 (1 + r.val)) = ![768 * (pl c r).val, 0] := k0_off7_eq c r

/-- The product of a slot's rows with B is what the schedule calls it. -/
theorem product_slot (c i : Dev nD) : k0_pay4 (narrowB m ρ c) (slotRead m ρ i) = prodRows m ρ c i := by
  unfold k0_pay4 prodRows k0_pay3
  dsimp only
  rw [slotRead_eq]

/-- The offsets of a whole matrix. -/
theorem zeros : (![0, 0] : Fin 2 → Nat) = fun _ => 0 := funext fun a => by fin_cases a <;> rfl

/-- Loads and stores of a whole buffer. -/
theorem read_A (f : Vec F S768x384 .f32) :
    (aM : Memref sig .tc .vmem S768x384 .f32).view.readAt (Elt F) (Rect.unit (s := S768x384) ![0, 0] ![768, 384] inb_S768x384_S768x384_0_0).toLoadRect f = f :=
  Memref.readAt_unit_zero (Elt F) cc0_stg0_0 zeros _ f
/-- Loading all of B's stage reads it; -/
theorem read_B (f : Vec F S384x768 .f32) :
    (bM : Memref sig .tc .vmem S384x768 .f32).view.readAt (Elt F) (Rect.unit (s := S384x768) ![0, 0] ![384, 768] inb_S384x768_S384x768_0_0).toLoadRect f = f :=
  Memref.readAt_unit_zero (Elt F) cc0_stg1_0 zeros _ f
/-- so does loading all of `chunk`; -/
theorem read_chunk (f : Vec F S768x384 .bf16) :
    (chM : Memref sig .tc .vmem S768x384 .bf16).view.readAt (Elt F) (Rect.unit (s := S768x384) ![0, 0] ![768, 384] inb_S768x384_S768x384_0_0).toLoadRect f = f :=
  Memref.readAt_unit_zero (Elt F) cc0_scratch0 zeros _ f
/-- and storing all of `chunk` leaves what is stored. -/
theorem write_chunk (f w : Vec F S768x384 .bf16) :
    (chM.access (Rect.unit (s := S768x384) ![0, 0] S768x384.size inb_S768x384_S768x384_0_0) : View sig .tc _ _ _).write (Elt F) f w Finset.univ = w :=
  Memref.write_access_unit_zero_univ (Elt F) cc0_scratch0 zeros _ f w

/-- A share of `chunk` as a share of the whole buffer. -/
theorem chunk_whole (q : PosShare TreeShare) (c : Dev nD) :
    chunkAt m ρ q c = (((c : Thread nD τ).loc cc0_scratch0) ↦{q} (rowsOf m ρ c : Buf (Elt F) ((c : Thread nD τ).loc cc0_scratch0))) := by
  unfold chunkAt
  show (((c : Thread nD τ).loc cc0_scratch0) ↦[(View.whole cc0_scratch0 : View sig .tc _ _ _).set]{q} _) = _
  rw [View.set_whole]

/-- One block of the result: wait for the rows from `pl c r`, read them, multiply, write. -/
theorem step_block (c : Dev nD) (r : Fin 15) (l d : List (Fin 15)) (is : List (Dev nD))
    (off off' : Fin 3 → ℕ) (h : ∀ a, off a + S1x768x384.size a ≤ S16x768x384.size a)
    (h' : ∀ a, off' a + S1x768x384.size a ≤ S16x768x384.size a) (ho' : off' = ![(pl c r).val, 0, 0])
    (off'' : Fin 2 → ℕ) (h'' : ∀ a, off'' a + S768x768.size a ≤ S12288x768.size a) (ho'' : off'' = ![768 * (pl c r).val, 0])
    (s : DmaSem sig) (hs : s = rcvS (pl c r))
    (pay : Vec F S1x768x384 .bf16 → Vec F S768x768 .f32) (hw : pay (slotRead m ρ (pl c r)) = prodRows m ρ c (pl c r))
    {hsrc : (chM : Memref sig .tc .vmem S768x384 .bf16).view.WordExact} {hdst : (slotAt off h).view.WordExact}
    {hl : (gM : Memref sig .tc .vmem S16x768x384 .bf16).view.LoadsAt (Rect.unit (s := S16x768x384) off' S1x768x384.size h').toLoadRect}
    {R : LoadRect S12288x768} {hR : (oM : Memref sig .tc .vmem S12288x768 .f32).view.LoadsAt R}
    {hx : (oM.access (Rect.unit (s := S12288x768) off'' S768x768.size h'') : View sig .tc _ _ _).Stores Finset.univ}
    {hm : (Finset.univ : Finset (Rect.unit (s := S12288x768) off'' S768x768.size h'').shape.Idx) = Finset.univ ∨ ∀ a, (Rect.unit (s := S12288x768) off'' S768x768.size h'').stride a = 1}
    {α : Type} {Q : α → sProp 𝕄} {k : PUnit → Prog (TpuEff nD τ sig (Elt F) Λ₀ .tc) α} :
    iprop(known m ρ K ∗ arrivals m ρ c (r :: l) d ∗ written m ρ c is)
      ⊢ iprop(((arrivals m ρ c l (r :: d) ∗ written m ρ c (pl c r :: is)) -∗ runs c (k ⟨⟩) Q)
        -∗ runs c (.op (.waitDma2 s chM (slotAt off h) hsrc hdst) fun _ =>
            .op (.load gM (Rect.unit (s := S16x768x384) off' S1x768x384.size h').toLoadRect hl) fun v =>
            .op (.load oM R hR) fun _ =>
            .op (.store oM (Rect.unit (s := S12288x768) off'' S768x768.size h'') (pay v) Finset.univ hx hm) k) Q) := by
  iintro ⟨#HK, Ha, Ho⟩ Hk
  iapply (step_arrive m ρ K c r l d off h s hs) $$ [Ha]
  · isplitr; · iexact HK
    iexact Ha
  iintro Ha
  iapply (step_read m ρ c r l d off' h' ho') $$ Ha
  iintro Ha
  iapply (step_peek m ρ c is) $$ Ho
  iintro %v Ho
  iapply (step_write m ρ c (pl c r) is off'' h'' ho'' _ hw) $$ Ho
  iintro Ho
  iapply Hk
  isplitl [Ha] <;> iassumption

/-! ## The pieces -/

variable {h0 : (aM : Memref sig .tc .vmem S768x384 .f32).IsWhole} {h1 : (bM : Memref sig .tc .vmem S384x768 .f32).IsWhole}
  {h2 : (oM : Memref sig .tc .vmem S12288x768 .f32).IsWhole} {h3 : (chM : Memref sig .tc .vmem S768x384 .bf16).IsWhole}
  {h4 : (gM : Memref sig .tc .vmem S16x768x384 .bf16).IsWhole}

/-- The barrier's semaphore as the program holds it. -/
abbrev barV : Sems sig S_ := SemArray.scalar (sig.barrier 0 rfl)

/-- The first five signals. -/
theorem part1 (c : Dev nD) {Q} : iprop(known m ρ K ∗ signals c ord)
    ⊢ iprop((∀ v2 v24 w, signals c [12, 3, 11, 4, 10, 5, 9, 6, 8, 7] -∗ Q ⟨c, v2, barV, v24, w⟩)
      -∗ runs c (k0_part1 (F := F) aM h0 bM h1 oM h2 chM h3 gM h4 cc0_scratch2 cc0_scratch3) Q) := by
  iintro ⟨#HK, Hs⟩ HQ
  unfold runs
  simp only [k0_part1_eq_skeleton]
  unfold k0_part1_skel
  simp only [semSignalWord, semWaitWord, Prog.lift, Prog.bind_op, Prog.bind_ret, Prog.pure_eq_ret, wp_deviceId]
  iapply (step_signal m ρ K c 0 _ _ (dev_pl c 0 _ (k0_dev1_eq c))) $$ [Hs]; (isplitr <;> iassumption); iintro Hs
  iapply (step_signal m ρ K c 14 _ _ (dev_pl c 14 _ (k0_dev2_eq c))) $$ [Hs]; (isplitr <;> iassumption); iintro Hs
  iapply (step_signal m ρ K c 1 _ _ (dev_pl c 1 _ (k0_dev3_eq c))) $$ [Hs]; (isplitr <;> iassumption); iintro Hs
  iapply (step_signal m ρ K c 13 _ _ (dev_pl c 13 _ (k0_dev4_eq c))) $$ [Hs]; (isplitr <;> iassumption); iintro Hs
  iapply (step_signal m ρ K c 2 _ _ (dev_pl c 2 _ (k0_dev5_eq c))) $$ [Hs]; (isplitr <;> iassumption); iintro Hs
  unfold runs
  rw [wp_ret]
  imodintro
  iapply HQ
  iexact Hs

/-- The next six signals. -/
theorem part2 (c : Dev nD) (v2 v24 w : BitVec 32) {Q} : iprop(known m ρ K ∗ signals c [12, 3, 11, 4, 10, 5, 9, 6, 8, 7])
    ⊢ iprop((∀ v48 w', signals c [9, 6, 8, 7] -∗ Q ⟨v48, w'⟩)
      -∗ runs c (k0_part2 (F := F) aM h0 bM h1 oM h2 chM h3 gM h4 cc0_scratch2 cc0_scratch3 c v2 barV v24 w) Q) := by
  iintro ⟨#HK, Hs⟩ HQ
  unfold runs
  simp only [k0_part2_eq_skeleton]
  unfold k0_part2_skel
  simp only [semSignalWord, semWaitWord, Prog.lift, Prog.bind_op, Prog.bind_ret, Prog.pure_eq_ret]
  iapply (step_signal m ρ K c 12 _ _ (dev_pl c 12 _ (k0_dev6_eq c))) $$ [Hs]; (isplitr <;> iassumption); iintro Hs
  iapply (step_signal m ρ K c 3 _ _ (dev_pl c 3 _ (k0_dev7_eq c))) $$ [Hs]; (isplitr <;> iassumption); iintro Hs
  iapply (step_signal m ρ K c 11 _ _ (dev_pl c 11 _ (k0_dev8_eq c))) $$ [Hs]; (isplitr <;> iassumption); iintro Hs
  iapply (step_signal m ρ K c 4 _ _ (dev_pl c 4 _ (k0_dev9_eq c))) $$ [Hs]; (isplitr <;> iassumption); iintro Hs
  iapply (step_signal m ρ K c 10 _ _ (dev_pl c 10 _ (k0_dev10_eq c))) $$ [Hs]; (isplitr <;> iassumption); iintro Hs
  iapply (step_signal m ρ K c 5 _ _ (dev_pl c 5 _ (k0_dev11_eq c))) $$ [Hs]; (isplitr <;> iassumption); iintro Hs
  unfold runs
  rw [wp_ret]
  imodintro
  iapply HQ
  iexact Hs

/-- The last four signals, the barrier wait, and the narrowing of A's rows into `chunk` and of B. -/
theorem part3 (c : Dev nD) (v2 v48 w : BitVec 32) {Q} :
    iprop(known m ρ K ∗ levAts lab lev ∗ signals c [9, 6, 8, 7] ∗ cred (tallyAt (barCell c) () 15) ∗ atPos EX (barCell c) 0 ∅ 0
        ∗ (((c : Thread nD τ).loc cc0_stg0_0) ↦{fullShare} aStg m ρ c) ∗ (((c : Thread nD τ).loc cc0_stg1_0) ↦{fullShare} bStg m ρ c)
        ∗ (∃ f : Buf (Elt F) ((c : Thread nD τ).loc cc0_scratch0), ((c : Thread nD τ).loc cc0_scratch0) ↦{fullShare} f))
    ⊢ iprop((∀ v74, (owing c (owedRcv c ord) ∗ atPos EX (barCell c) 1 ∅ 0 ∗ (bigSepL ord fun r => slotAny (F := F) (pl c r) c)
        ∗ (((c : Thread nD τ).loc cc0_stg0_0) ↦{fullShare} aStg m ρ c) ∗ (((c : Thread nD τ).loc cc0_stg1_0) ↦{fullShare} bStg m ρ c)
        ∗ chunkAt m ρ fullShare c) -∗ Q ⟨narrowB m ρ c, v74⟩)
      -∗ runs c (k0_part3 (F := F) aM h0 bM h1 oM h2 chM h3 gM h4 cc0_scratch2 cc0_scratch3 c v2 barV v48 w) Q) := by
  iintro ⟨#HK, #Hlev, Hs, Hc, Hat, HA, HB, ⟨%f, Hch⟩⟩ HQ
  unfold runs
  simp only [k0_part3_eq_skeleton]
  unfold k0_part3_skel
  simp only [semSignalWord, semWaitWord, Prog.lift, Prog.bind_op, Prog.bind_ret, Prog.pure_eq_ret]
  iapply (step_signal m ρ K c 9 _ _ (dev_pl c 9 _ (k0_dev12_eq c))) $$ [Hs]; (isplitr <;> iassumption); iintro Hs
  iapply (step_signal m ρ K c 6 _ _ (dev_pl c 6 _ (k0_dev13_eq c))) $$ [Hs]; (isplitr <;> iassumption); iintro Hs
  iapply (step_signal m ρ K c 8 _ _ (dev_pl c 8 _ (k0_dev14_eq c))) $$ [Hs]; (isplitr <;> iassumption); iintro Hs
  iapply (step_signal m ρ K c 7 _ _ (dev_pl c 7 _ (k0_dev15_eq c))) $$ [Hs]; (isplitr <;> iassumption); iintro Hs
  iapply (step_barrier m ρ K c) $$ [Hs Hc Hat]
  · isplitr; · iexact HK
    isplitr; · iexact Hlev
    isplitl [Hs]; · iexact Hs
    isplitl [Hc] <;> iassumption
  iintro ⟨HO, Hat, Hslots⟩
  unfold runs
  iapply (wp_load noVariants (c : Thread nD τ) none Set.univ (m := aM) (Finset.subset_univ _)) $$ HA
  iintro HA
  iapply (wp_load noVariants (c : Thread nD τ) none Set.univ (m := chM) (Finset.subset_univ _)) $$ Hch
  iintro Hch
  iapply (wp_store noVariants (c : Thread nD τ) none Set.univ (m := chM)
    (r := Rect.unit (s := S768x384) ![0, 0] S768x384.size inb_S768x384_S768x384_0_0) (Mk := Finset.univ) (Finset.subset_univ _)) $$ Hch
  iintro Hch
  iapply (wp_load noVariants (c : Thread nD τ) none Set.univ (m := bM) (Finset.subset_univ _)) $$ HB
  iintro HB
  rw [read_A, read_B, write_chunk]
  rw [wp_ret]
  imodintro
  iapply HQ
  isplitl [HO]; · iexact HO
  isplitl [Hat]; · iexact Hat
  isplitl [Hslots]; · iexact Hslots
  isplitl [HA]; · iexact HA
  isplitl [HB]; · iexact HB
  rw [chunk_whole]
  iexact Hch

/-- Three copies. -/
theorem part4 (c : Dev nD) (l d : List (Fin 15)) (v2 v74 : BitVec 32) {Q} : iprop(known m ρ K ∗ copies m ρ c (0 :: 14 :: 1 :: l) d)
    ⊢ iprop((copies m ρ c l (1 :: 14 :: 0 :: d) -∗ Q ⟨⟩)
      -∗ runs c (k0_part4 (F := F) aM h0 bM h1 oM h2 chM h3 gM h4 cc0_scratch2 cc0_scratch3 c v2 v74) Q) := by
  iintro ⟨#HK, Hs⟩ HQ
  unfold runs
  simp only [k0_part4_eq_skeleton]
  unfold k0_part4_skel
  simp only [Prog.lift, Prog.bind_op, Prog.bind_ret, Prog.pure_eq_ret]
  iapply (step_copy m ρ K c 0 _ _ _ (dev_pl c 0 _ (k0_dev16_eq c)) _ (k0_off2_inb c) (k0_off2_eq c) _ _ (snd_sem _ _ 0 rfl) (rcv_sem _ _ c (k0_off1_eq c))) $$ [Hs]; (isplitr <;> iassumption); iintro Hs
  iapply (step_copy m ρ K c 14 _ _ _ (dev_pl c 14 _ (k0_dev17_eq c)) _ (k0_off2_inb c) (k0_off2_eq c) _ _ (snd_sem _ _ 14 rfl) (rcv_sem _ _ c (k0_off1_eq c))) $$ [Hs]; (isplitr <;> iassumption); iintro Hs
  iapply (step_copy m ρ K c 1 _ _ _ (dev_pl c 1 _ (k0_dev18_eq c)) _ (k0_off2_inb c) (k0_off2_eq c) _ _ (snd_sem _ _ 1 rfl) (rcv_sem _ _ c (k0_off1_eq c))) $$ [Hs]; (isplitr <;> iassumption); iintro Hs
  unfold runs
  rw [wp_ret]
  imodintro
  iapply HQ
  iexact Hs

/-- Three copies. -/
theorem part5 (c : Dev nD) (l d : List (Fin 15)) (v2 : BitVec 32) {Q} : iprop(known m ρ K ∗ copies m ρ c (13 :: 2 :: 12 :: l) d)
    ⊢ iprop((copies m ρ c l (12 :: 2 :: 13 :: d) -∗ Q ⟨⟩)
      -∗ runs c (k0_part5 (F := F) aM h0 bM h1 oM h2 chM h3 gM h4 cc0_scratch2 cc0_scratch3 c v2) Q) := by
  iintro ⟨#HK, Hs⟩ HQ
  unfold runs
  simp only [k0_part5_eq_skeleton]
  unfold k0_part5_skel
  simp only [Prog.lift, Prog.bind_op, Prog.bind_ret, Prog.pure_eq_ret]
  iapply (step_copy m ρ K c 13 _ _ _ (dev_pl c 13 _ (k0_dev19_eq c)) _ (k0_off2_inb c) (k0_off2_eq c) _ _ (snd_sem _ _ 13 rfl) (rcv_sem _ _ c (k0_off1_eq c))) $$ [Hs]; (isplitr <;> iassumption); iintro Hs
  iapply (step_copy m ρ K c 2 _ _ _ (dev_pl c 2 _ (k0_dev20_eq c)) _ (k0_off2_inb c) (k0_off2_eq c) _ _ (snd_sem _ _ 2 rfl) (rcv_sem _ _ c (k0_off1_eq c))) $$ [Hs]; (isplitr <;> iassumption); iintro Hs
  iapply (step_copy m ρ K c 12 _ _ _ (dev_pl c 12 _ (k0_dev21_eq c)) _ (k0_off2_inb c) (k0_off2_eq c) _ _ (snd_sem _ _ 12 rfl) (rcv_sem _ _ c (k0_off1_eq c))) $$ [Hs]; (isplitr <;> iassumption); iintro Hs
  unfold runs
  rw [wp_ret]
  imodintro
  iapply HQ
  iexact Hs

/-- Four copies. -/
theorem part6 (c : Dev nD) (l d : List (Fin 15)) (v2 : BitVec 32) {Q} : iprop(known m ρ K ∗ copies m ρ c (3 :: 11 :: 4 :: 10 :: l) d)
    ⊢ iprop((∀ w, copies m ρ c l (10 :: 4 :: 11 :: 3 :: d) -∗ Q w)
      -∗ runs c (k0_part6 (F := F) aM h0 bM h1 oM h2 chM h3 gM h4 cc0_scratch2 cc0_scratch3 c v2) Q) := by
  iintro ⟨#HK, Hs⟩ HQ
  unfold runs
  simp only [k0_part6_eq_skeleton]
  unfold k0_part6_skel
  simp only [Prog.lift, Prog.bind_op, Prog.bind_ret, Prog.pure_eq_ret]
  iapply (step_copy m ρ K c 3 _ _ _ (dev_pl c 3 _ (k0_dev22_eq c)) _ (k0_off2_inb c) (k0_off2_eq c) _ _ (snd_sem _ _ 3 rfl) (rcv_sem _ _ c (k0_off1_eq c))) $$ [Hs]; (isplitr <;> iassumption); iintro Hs
  iapply (step_copy m ρ K c 11 _ _ _ (dev_pl c 11 _ (k0_dev23_eq c)) _ (k0_off2_inb c) (k0_off2_eq c) _ _ (snd_sem _ _ 11 rfl) (rcv_sem _ _ c (k0_off1_eq c))) $$ [Hs]; (isplitr <;> iassumption); iintro Hs
  iapply (step_copy m ρ K c 4 _ _ _ (dev_pl c 4 _ (k0_dev24_eq c)) _ (k0_off2_inb c) (k0_off2_eq c) _ _ (snd_sem _ _ 4 rfl) (rcv_sem _ _ c (k0_off1_eq c))) $$ [Hs]; (isplitr <;> iassumption); iintro Hs
  iapply (step_copy m ρ K c 10 _ _ _ (dev_pl c 10 _ (k0_dev25_eq c)) _ (k0_off2_inb c) (k0_off2_eq c) _ _ (snd_sem _ _ 10 rfl) (rcv_sem _ _ c (k0_off1_eq c))) $$ [Hs]; (isplitr <;> iassumption); iintro Hs
  unfold runs
  rw [wp_ret]
  imodintro
  iapply HQ
  iexact Hs

/-- Three copies. -/
theorem part7 (c : Dev nD) (l d : List (Fin 15)) (v2 v174 : BitVec 32) {Q} : iprop(known m ρ K ∗ copies m ρ c (5 :: 9 :: 6 :: l) d)
    ⊢ iprop((copies m ρ c l (6 :: 9 :: 5 :: d) -∗ Q ⟨⟩)
      -∗ runs c (k0_part7 (F := F) aM h0 bM h1 oM h2 chM h3 gM h4 cc0_scratch2 cc0_scratch3 c v2 v174) Q) := by
  iintro ⟨#HK, Hs⟩ HQ
  unfold runs
  simp only [k0_part7_eq_skeleton]
  unfold k0_part7_skel
  simp only [Prog.lift, Prog.bind_op, Prog.bind_ret, Prog.pure_eq_ret]
  iapply (step_copy m ρ K c 5 _ _ _ (dev_pl c 5 _ (k0_dev26_eq c)) _ (k0_off2_inb c) (k0_off2_eq c) _ _ (snd_sem _ _ 5 rfl) (rcv_sem _ _ c (k0_off1_eq c))) $$ [Hs]; (isplitr <;> iassumption); iintro Hs
  iapply (step_copy m ρ K c 9 _ _ _ (dev_pl c 9 _ (k0_dev27_eq c)) _ (k0_off2_inb c) (k0_off2_eq c) _ _ (snd_sem _ _ 9 rfl) (rcv_sem _ _ c (k0_off1_eq c))) $$ [Hs]; (isplitr <;> iassumption); iintro Hs
  iapply (step_copy m ρ K c 6 _ _ _ (dev_pl c 6 _ (k0_dev28_eq c)) _ (k0_off2_inb c) (k0_off2_eq c) _ _ (snd_sem _ _ 6 rfl) (rcv_sem _ _ c (k0_off1_eq c))) $$ [Hs]; (isplitr <;> iassumption); iintro Hs
  unfold runs
  rw [wp_ret]
  imodintro
  iapply HQ
  iexact Hs

/-- All the copies are out. -/
theorem copies_done (c : Dev nD) (d : List (Fin 15)) :
    copies m ρ c [] d ⊢ iprop(owing c 0 ∗ bigSepL d fun r => cred (tallyAt (sndCell c r) () N)) := by
  unfold copies
  iintro ⟨HO, -, Hd⟩
  isplitl [HO]; · iexact HO
  iexact Hd

/-- Nothing has arrived yet. -/
theorem arrivals_start (c : Dev nD) (l : List (Fin 15)) :
    iprop(owing c 0 ∗ (bigSepL l fun r => iprop(cred (tallyAt (rcvCell c (pl c r)) () N) ∗ atPos EX (rcvCell c (pl c r)) 0 ∅ 0)))
      ⊢ arrivals m ρ c l [] := by
  unfold arrivals
  rw [bigSepL_nil]
  iintro ⟨HO, Hl⟩
  isplitl [HO]; · iexact HO
  isplitl [Hl]; · iexact Hl
  iempintro

/-- The last two copies; the device's own block of the result; the wait for the first rows, whose product is handed on. -/
theorem part8 (c : Dev nD) (l d l' d' : List (Fin 15)) (is : List (Dev nD)) (v2 : BitVec 32) {Q} :
    iprop(known m ρ K ∗ copies m ρ c [8, 7] d ∗ chunkAt m ρ restShare c ∗ written m ρ c is
      ∗ (bigSepL (0 :: l) fun r => iprop(cred (tallyAt (rcvCell c (pl c r)) () N) ∗ atPos EX (rcvCell c (pl c r)) 0 ∅ 0)))
    ⊢ iprop((∀ w, ((bigSepL (7 :: 8 :: d) fun r => cred (tallyAt (sndCell c r) () N)) ∗ chunkAt m ρ restShare c
          ∗ written m ρ c (c :: is) ∗ arrivals m ρ c l [0]) -∗ Q ⟨w, prodRows m ρ c (pl c 0)⟩)
      -∗ runs c (k0_part8 (F := F) aM h0 bM h1 oM h2 chM h3 gM h4 cc0_scratch2 cc0_scratch3 c v2 (narrowB m ρ c)) Q) := by
  iintro ⟨#HK, Hs, Hch, Ho, Hin⟩ HQ
  unfold runs
  simp only [k0_part8_eq_skeleton]
  unfold k0_part8_skel
  simp only [Prog.lift, Prog.bind_op, Prog.bind_ret, Prog.pure_eq_ret]
  iapply (step_copy m ρ K c 8 _ _ _ (dev_pl c 8 _ (k0_dev29_eq c)) _ (k0_off2_inb c) (k0_off2_eq c) _ _ (snd_sem _ _ 8 rfl) (rcv_sem _ _ c (k0_off1_eq c))) $$ [Hs]; (isplitr <;> iassumption); iintro Hs
  iapply (step_copy m ρ K c 7 _ _ _ (dev_pl c 7 _ (k0_dev30_eq c)) _ (k0_off2_inb c) (k0_off2_eq c) _ _ (snd_sem _ _ 7 rfl) (rcv_sem _ _ c (k0_off1_eq c))) $$ [Hs]; (isplitr <;> iassumption); iintro Hs
  ihave Hs := (copies_done m ρ c _) $$ Hs
  icases Hs with ⟨HO, Hd⟩
  ihave Hch := (Entails.of_eq (chunk_whole m ρ restShare c)) $$ Hch
  unfold runs
  iapply (wp_load noVariants (c : Thread nD τ) none Set.univ (m := chM) (Finset.subset_univ _)) $$ Hch; iintro Hch
  rw [read_chunk]
  iapply (step_peek m ρ c _) $$ Ho; iintro %v Ho
  iapply (step_write m ρ c c _ _ (k0_off3_inb c) (k0_off3_eq c) _ rfl) $$ Ho; iintro Ho
  ihave Ha := (arrivals_start m ρ c (0 :: l)) $$ [HO Hin]
  · isplitl [HO] <;> iassumption
  iapply (step_arrive m ρ K c 0 _ _ _ (k0_off5_inb c 0) _ (rcv_sem _ _ _ (k0_off4_eq c 0))) $$ [Ha]; (isplitr <;> iassumption); iintro Ha
  iapply (step_read m ρ c 0 _ _ _ (k0_off6_inb c 0) (off6_pl c 0)) $$ Ha; iintro Ha
  rw [product_slot]
  unfold runs
  rw [wp_ret]
  imodintro
  iapply HQ
  isplitl [Hd]; · iexact Hd
  isplitl [Hch]; · rw [chunk_whole]; iexact Hch
  isplitl [Ho] <;> iassumption

/-- A block is written, another done, a third's product handed on. -/
theorem part9 (c : Dev nD) (l d : List (Fin 15)) (is : List (Dev nD)) (v2 v229 : BitVec 32) {Q} :
    iprop(known m ρ K ∗ arrivals m ρ c (14 :: 1 :: l) d ∗ written m ρ c is)
    ⊢ iprop((∀ w, (arrivals m ρ c l (1 :: 14 :: d) ∗ written m ρ c (pl c 14 :: pl c 0 :: is)) -∗ Q ⟨prodRows m ρ c (pl c 1), w⟩)
      -∗ runs c (k0_part9 (F := F) aM h0 bM h1 oM h2 chM h3 gM h4 cc0_scratch2 cc0_scratch3 c v2 (narrowB m ρ c) v229 (prodRows m ρ c (pl c 0))) Q) := by
  iintro ⟨#HK, Ha, Ho⟩ HQ
  unfold runs
  simp only [k0_part9_eq_skeleton]
  unfold k0_part9_skel
  simp only [Prog.lift, Prog.bind_op, Prog.bind_ret, Prog.pure_eq_ret]
  iapply (step_peek m ρ c _) $$ Ho; iintro %v Ho
  iapply (step_write m ρ c (pl c 0) _ _ (k0_off7_inb c 0) (off7_pl c 0) _ rfl) $$ Ho; iintro Ho
  iapply (step_block m ρ K c 14 _ _ _ _ _ (k0_off5_inb c 14) (k0_off6_inb c 14) (off6_pl c 14) _ (k0_off7_inb c 14) (off7_pl c 14) _ (rcv_sem _ _ _ (k0_off4_eq c 14))
    _ (product_slot m ρ c (pl c 14))) $$ [Ha Ho]
  · isplitr; · iexact HK
    isplitl [Ha] <;> iassumption
  iintro ⟨Ha, Ho⟩
  iapply (step_arrive m ρ K c 1 _ _ _ (k0_off5_inb c 1) _ (rcv_sem _ _ _ (k0_off4_eq c 1))) $$ [Ha]; (isplitr <;> iassumption); iintro Ha
  iapply (step_read m ρ c 1 _ _ _ (k0_off6_inb c 1) (off6_pl c 1)) $$ Ha; iintro Ha
  rw [show k0_pay6 (narrowB m ρ c) (slotRead m ρ (pl c 1)) = _ from product_slot m ρ c (pl c 1)]
  unfold runs
  rw [wp_ret]
  imodintro
  iapply HQ
  isplitl [Ha] <;> iassumption

/-- A block is written, another done, a third's product handed on. -/
theorem part10 (c : Dev nD) (l d : List (Fin 15)) (is : List (Dev nD)) (v2 v270 : BitVec 32) {Q} :
    iprop(known m ρ K ∗ arrivals m ρ c (13 :: 2 :: l) d ∗ written m ρ c is)
    ⊢ iprop(((arrivals m ρ c l (2 :: 13 :: d) ∗ written m ρ c (pl c 13 :: pl c 1 :: is)) -∗ Q (prodRows m ρ c (pl c 2)))
      -∗ runs c (k0_part10 (F := F) aM h0 bM h1 oM h2 chM h3 gM h4 cc0_scratch2 cc0_scratch3 c v2 (narrowB m ρ c) (prodRows m ρ c (pl c 1)) v270) Q) := by
  iintro ⟨#HK, Ha, Ho⟩ HQ
  unfold runs
  simp only [k0_part10_eq_skeleton]
  unfold k0_part10_skel
  simp only [Prog.lift, Prog.bind_op, Prog.bind_ret, Prog.pure_eq_ret]
  iapply (step_peek m ρ c _) $$ Ho; iintro %v Ho
  iapply (step_write m ρ c (pl c 1) _ _ (k0_off7_inb c 1) (off7_pl c 1) _ rfl) $$ Ho; iintro Ho
  iapply (step_block m ρ K c 13 _ _ _ _ _ (k0_off5_inb c 13) (k0_off6_inb c 13) (off6_pl c 13) _ (k0_off7_inb c 13) (off7_pl c 13) _ (rcv_sem _ _ _ (k0_off4_eq c 13))
    _ (product_slot m ρ c (pl c 13))) $$ [Ha Ho]
  · isplitr; · iexact HK
    isplitl [Ha] <;> iassumption
  iintro ⟨Ha, Ho⟩
  iapply (step_arrive m ρ K c 2 _ _ _ (k0_off5_inb c 2) _ (rcv_sem _ _ _ (k0_off4_eq c 2))) $$ [Ha]; (isplitr <;> iassumption); iintro Ha
  iapply (step_read m ρ c 2 _ _ _ (k0_off6_inb c 2) (off6_pl c 2)) $$ Ha; iintro Ha
  rw [show k0_pay8 (narrowB m ρ c) (slotRead m ρ (pl c 2)) = _ from product_slot m ρ c (pl c 2)]
  unfold runs
  rw [wp_ret]
  imodintro
  iapply HQ
  isplitl [Ha] <;> iassumption

/-- A block is written, and two more done. -/
theorem part11 (c : Dev nD) (l d : List (Fin 15)) (is : List (Dev nD)) (v2 : BitVec 32) {Q} :
    iprop(known m ρ K ∗ arrivals m ρ c (12 :: 3 :: l) d ∗ written m ρ c is)
    ⊢ iprop(((arrivals m ρ c l (3 :: 12 :: d) ∗ written m ρ c (pl c 3 :: pl c 12 :: pl c 2 :: is)) -∗ Q ⟨⟩)
      -∗ runs c (k0_part11 (F := F) aM h0 bM h1 oM h2 chM h3 gM h4 cc0_scratch2 cc0_scratch3 c v2 (narrowB m ρ c) (prodRows m ρ c (pl c 2))) Q) := by
  iintro ⟨#HK, Ha, Ho⟩ HQ
  unfold runs
  simp only [k0_part11_eq_skeleton]
  unfold k0_part11_skel
  simp only [Prog.lift, Prog.bind_op, Prog.bind_ret, Prog.pure_eq_ret]
  iapply (step_peek m ρ c _) $$ Ho; iintro %v Ho
  iapply (step_write m ρ c (pl c 2) _ _ (k0_off7_inb c 2) (off7_pl c 2) _ rfl) $$ Ho; iintro Ho
  iapply (step_block m ρ K c 12 _ _ _ _ _ (k0_off5_inb c 12) (k0_off6_inb c 12) (off6_pl c 12) _ (k0_off7_inb c 12) (off7_pl c 12) _ (rcv_sem _ _ _ (k0_off4_eq c 12))
    _ (product_slot m ρ c (pl c 12))) $$ [Ha Ho]
  · isplitr; · iexact HK
    isplitl [Ha] <;> iassumption
  iintro ⟨Ha, Ho⟩
  iapply (step_block m ρ K c 3 _ _ _ _ _ (k0_off5_inb c 3) (k0_off6_inb c 3) (off6_pl c 3) _ (k0_off7_inb c 3) (off7_pl c 3) _ (rcv_sem _ _ _ (k0_off4_eq c 3))
    _ (product_slot m ρ c (pl c 3))) $$ [Ha Ho]
  · isplitr; · iexact HK
    isplitl [Ha] <;> iassumption
  iintro ⟨Ha, Ho⟩
  unfold runs
  rw [wp_ret]
  imodintro
  iapply HQ
  isplitl [Ha] <;> iassumption

/-- Two blocks. -/
theorem part12 (c : Dev nD) (l d : List (Fin 15)) (is : List (Dev nD)) (v2 : BitVec 32) {Q} :
    iprop(known m ρ K ∗ arrivals m ρ c (11 :: 4 :: l) d ∗ written m ρ c is)
    ⊢ iprop((∀ w, (arrivals m ρ c l (4 :: 11 :: d) ∗ written m ρ c (pl c 4 :: pl c 11 :: is)) -∗ Q w)
      -∗ runs c (k0_part12 (F := F) aM h0 bM h1 oM h2 chM h3 gM h4 cc0_scratch2 cc0_scratch3 c v2 (narrowB m ρ c)) Q) := by
  iintro ⟨#HK, Ha, Ho⟩ HQ
  unfold runs
  simp only [k0_part12_eq_skeleton]
  unfold k0_part12_skel
  simp only [Prog.lift, Prog.bind_op, Prog.bind_ret, Prog.pure_eq_ret]
  iapply (step_block m ρ K c 11 _ _ _ _ _ (k0_off5_inb c 11) (k0_off6_inb c 11) (off6_pl c 11) _ (k0_off7_inb c 11) (off7_pl c 11) _ (rcv_sem _ _ _ (k0_off4_eq c 11))
    _ (product_slot m ρ c (pl c 11))) $$ [Ha Ho]
  · isplitr; · iexact HK
    isplitl [Ha] <;> iassumption
  iintro ⟨Ha, Ho⟩
  iapply (step_block m ρ K c 4 _ _ _ _ _ (k0_off5_inb c 4) (k0_off6_inb c 4) (off6_pl c 4) _ (k0_off7_inb c 4) (off7_pl c 4) _ (rcv_sem _ _ _ (k0_off4_eq c 4))
    _ (product_slot m ρ c (pl c 4))) $$ [Ha Ho]
  · isplitr; · iexact HK
    isplitl [Ha] <;> iassumption
  iintro ⟨Ha, Ho⟩
  unfold runs
  rw [wp_ret]
  imodintro
  iapply HQ
  isplitl [Ha] <;> iassumption

/-- Two blocks. -/
theorem part13 (c : Dev nD) (l d : List (Fin 15)) (is : List (Dev nD)) (v2 v363 : BitVec 32) {Q} :
    iprop(known m ρ K ∗ arrivals m ρ c (10 :: 5 :: l) d ∗ written m ρ c is)
    ⊢ iprop((∀ w, (arrivals m ρ c l (5 :: 10 :: d) ∗ written m ρ c (pl c 5 :: pl c 10 :: is)) -∗ Q w)
      -∗ runs c (k0_part13 (F := F) aM h0 bM h1 oM h2 chM h3 gM h4 cc0_scratch2 cc0_scratch3 c v2 (narrowB m ρ c) v363) Q) := by
  iintro ⟨#HK, Ha, Ho⟩ HQ
  unfold runs
  simp only [k0_part13_eq_skeleton]
  unfold k0_part13_skel
  simp only [Prog.lift, Prog.bind_op, Prog.bind_ret, Prog.pure_eq_ret]
  iapply (step_block m ρ K c 10 _ _ _ _ _ (k0_off5_inb c 10) (k0_off6_inb c 10) (off6_pl c 10) _ (k0_off7_inb c 10) (off7_pl c 10) _ (rcv_sem _ _ _ (k0_off4_eq c 10))
    _ (product_slot m ρ c (pl c 10))) $$ [Ha Ho]
  · isplitr; · iexact HK
    isplitl [Ha] <;> iassumption
  iintro ⟨Ha, Ho⟩
  iapply (step_block m ρ K c 5 _ _ _ _ _ (k0_off5_inb c 5) (k0_off6_inb c 5) (off6_pl c 5) _ (k0_off7_inb c 5) (off7_pl c 5) _ (rcv_sem _ _ _ (k0_off4_eq c 5))
    _ (product_slot m ρ c (pl c 5))) $$ [Ha Ho]
  · isplitr; · iexact HK
    isplitl [Ha] <;> iassumption
  iintro ⟨Ha, Ho⟩
  unfold runs
  rw [wp_ret]
  imodintro
  iapply HQ
  isplitl [Ha] <;> iassumption

/-- Two blocks. -/
theorem part14 (c : Dev nD) (l d : List (Fin 15)) (is : List (Dev nD)) (v2 v394 : BitVec 32) {Q} :
    iprop(known m ρ K ∗ arrivals m ρ c (9 :: 6 :: l) d ∗ written m ρ c is)
    ⊢ iprop((∀ w w', (arrivals m ρ c l (6 :: 9 :: d) ∗ written m ρ c (pl c 6 :: pl c 9 :: is)) -∗ Q ⟨w, w'⟩)
      -∗ runs c (k0_part14 (F := F) aM h0 bM h1 oM h2 chM h3 gM h4 cc0_scratch2 cc0_scratch3 c v2 (narrowB m ρ c) v394) Q) := by
  iintro ⟨#HK, Ha, Ho⟩ HQ
  unfold runs
  simp only [k0_part14_eq_skeleton]
  unfold k0_part14_skel
  simp only [Prog.lift, Prog.bind_op, Prog.bind_ret, Prog.pure_eq_ret]
  iapply (step_block m ρ K c 9 _ _ _ _ _ (k0_off5_inb c 9) (k0_off6_inb c 9) (off6_pl c 9) _ (k0_off7_inb c 9) (off7_pl c 9) _ (rcv_sem _ _ _ (k0_off4_eq c 9))
    _ (product_slot m ρ c (pl c 9))) $$ [Ha Ho]
  · isplitr; · iexact HK
    isplitl [Ha] <;> iassumption
  iintro ⟨Ha, Ho⟩
  iapply (step_block m ρ K c 6 _ _ _ _ _ (k0_off5_inb c 6) (k0_off6_inb c 6) (off6_pl c 6) _ (k0_off7_inb c 6) (off7_pl c 6) _ (rcv_sem _ _ _ (k0_off4_eq c 6))
    _ (product_slot m ρ c (pl c 6))) $$ [Ha Ho]
  · isplitr; · iexact HK
    isplitl [Ha] <;> iassumption
  iintro ⟨Ha, Ho⟩
  unfold runs
  rw [wp_ret]
  imodintro
  iapply HQ
  isplitl [Ha] <;> iassumption

/-- The last two blocks. -/
theorem part15 (c : Dev nD) (l d : List (Fin 15)) (is : List (Dev nD)) (v2 v424 w : BitVec 32) {Q} :
    iprop(known m ρ K ∗ arrivals m ρ c (8 :: 7 :: l) d ∗ written m ρ c is)
    ⊢ iprop(((arrivals m ρ c l (7 :: 8 :: d) ∗ written m ρ c (pl c 7 :: pl c 8 :: is)) -∗ Q ⟨⟩)
      -∗ runs c (k0_part15 (F := F) aM h0 bM h1 oM h2 chM h3 gM h4 cc0_scratch2 cc0_scratch3 c v2 (narrowB m ρ c) v424 w) Q) := by
  iintro ⟨#HK, Ha, Ho⟩ HQ
  unfold runs
  simp only [k0_part15_eq_skeleton]
  unfold k0_part15_skel
  simp only [Prog.lift, Prog.bind_op, Prog.bind_ret, Prog.pure_eq_ret]
  iapply (step_block m ρ K c 8 _ _ _ _ _ (k0_off5_inb c 8) (k0_off6_inb c 8) (off6_pl c 8) _ (k0_off7_inb c 8) (off7_pl c 8) _ (rcv_sem _ _ _ (k0_off4_eq c 8))
    _ (product_slot m ρ c (pl c 8))) $$ [Ha Ho]
  · isplitr; · iexact HK
    isplitl [Ha] <;> iassumption
  iintro ⟨Ha, Ho⟩
  iapply (step_block m ρ K c 7 _ _ _ _ _ (k0_off5_inb c 7) (k0_off6_inb c 7) (off6_pl c 7) _ (k0_off7_inb c 7) (off7_pl c 7) _ (rcv_sem _ _ _ (k0_off4_eq c 7))
    _ (product_slot m ρ c (pl c 7))) $$ [Ha Ho]
  · isplitr; · iexact HK
    isplitl [Ha] <;> iassumption
  iintro ⟨Ha, Ho⟩
  unfold runs
  rw [wp_ret]
  imodintro
  iapply HQ
  isplitl [Ha] <;> iassumption

/-- Seven waits for copies to have left. -/
theorem part16 (c : Dev nD) (l d : List (Fin 15)) {Q} : iprop(known m ρ K ∗ returns m ρ c (0 :: 14 :: 1 :: 13 :: 2 :: 12 :: 3 :: l) d)
    ⊢ iprop((returns m ρ c l (3 :: 12 :: 2 :: 13 :: 1 :: 14 :: 0 :: d) -∗ Q ⟨⟩)
      -∗ runs c (k0_part16 (F := F) aM h0 bM h1 oM h2 chM h3 gM h4 cc0_scratch2 cc0_scratch3 c) Q) := by
  iintro ⟨#HK, Hs⟩ HQ
  unfold runs
  simp only [k0_part16_eq_skeleton]
  unfold k0_part16_skel
  simp only [Prog.lift, Prog.bind_op, Prog.bind_ret, Prog.pure_eq_ret]
  iapply (step_return m ρ K c 0 _ _ _ (k0_off2_inb c) _ (snd_sem _ _ 0 rfl)) $$ [Hs]; (isplitr <;> iassumption); iintro Hs
  iapply (step_return m ρ K c 14 _ _ _ (k0_off2_inb c) _ (snd_sem _ _ 14 rfl)) $$ [Hs]; (isplitr <;> iassumption); iintro Hs
  iapply (step_return m ρ K c 1 _ _ _ (k0_off2_inb c) _ (snd_sem _ _ 1 rfl)) $$ [Hs]; (isplitr <;> iassumption); iintro Hs
  iapply (step_return m ρ K c 13 _ _ _ (k0_off2_inb c) _ (snd_sem _ _ 13 rfl)) $$ [Hs]; (isplitr <;> iassumption); iintro Hs
  iapply (step_return m ρ K c 2 _ _ _ (k0_off2_inb c) _ (snd_sem _ _ 2 rfl)) $$ [Hs]; (isplitr <;> iassumption); iintro Hs
  iapply (step_return m ρ K c 12 _ _ _ (k0_off2_inb c) _ (snd_sem _ _ 12 rfl)) $$ [Hs]; (isplitr <;> iassumption); iintro Hs
  iapply (step_return m ρ K c 3 _ _ _ (k0_off2_inb c) _ (snd_sem _ _ 3 rfl)) $$ [Hs]; (isplitr <;> iassumption); iintro Hs
  unfold runs
  rw [wp_ret]
  imodintro
  iapply HQ
  iexact Hs

/-- Seven waits for copies to have left. -/
theorem part17 (c : Dev nD) (l d : List (Fin 15)) {Q} : iprop(known m ρ K ∗ returns m ρ c (11 :: 4 :: 10 :: 5 :: 9 :: 6 :: 8 :: l) d)
    ⊢ iprop((returns m ρ c l (8 :: 6 :: 9 :: 5 :: 10 :: 4 :: 11 :: d) -∗ Q ⟨⟩)
      -∗ runs c (k0_part17 (F := F) aM h0 bM h1 oM h2 chM h3 gM h4 cc0_scratch2 cc0_scratch3 c) Q) := by
  iintro ⟨#HK, Hs⟩ HQ
  unfold runs
  simp only [k0_part17_eq_skeleton]
  unfold k0_part17_skel
  simp only [Prog.lift, Prog.bind_op, Prog.bind_ret, Prog.pure_eq_ret]
  iapply (step_return m ρ K c 11 _ _ _ (k0_off2_inb c) _ (snd_sem _ _ 11 rfl)) $$ [Hs]; (isplitr <;> iassumption); iintro Hs
  iapply (step_return m ρ K c 4 _ _ _ (k0_off2_inb c) _ (snd_sem _ _ 4 rfl)) $$ [Hs]; (isplitr <;> iassumption); iintro Hs
  iapply (step_return m ρ K c 10 _ _ _ (k0_off2_inb c) _ (snd_sem _ _ 10 rfl)) $$ [Hs]; (isplitr <;> iassumption); iintro Hs
  iapply (step_return m ρ K c 5 _ _ _ (k0_off2_inb c) _ (snd_sem _ _ 5 rfl)) $$ [Hs]; (isplitr <;> iassumption); iintro Hs
  iapply (step_return m ρ K c 9 _ _ _ (k0_off2_inb c) _ (snd_sem _ _ 9 rfl)) $$ [Hs]; (isplitr <;> iassumption); iintro Hs
  iapply (step_return m ρ K c 6 _ _ _ (k0_off2_inb c) _ (snd_sem _ _ 6 rfl)) $$ [Hs]; (isplitr <;> iassumption); iintro Hs
  iapply (step_return m ρ K c 8 _ _ _ (k0_off2_inb c) _ (snd_sem _ _ 8 rfl)) $$ [Hs]; (isplitr <;> iassumption); iintro Hs
  unfold runs
  rw [wp_ret]
  imodintro
  iapply HQ
  iexact Hs

end Cert.Gather

end
-- ==== Proof.Body.lean ====
/-
The whole body of the kernel at a symbolic device: what it starts from and what it ends with.
-/
module

public import proofs.«01_k».proof.Proof.Parts

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GU ℕ

variable (m : (ℓ : Loc nD τ sig) → Buf (Elt F) ℓ) (ρ : Dev nD → PrngReg) (K : Dev nD × Ci → ℕ)

/-! ## Conjunctions over the other devices -/

/-- Over all devices: at `c`, and at every distance from it. -/
theorem split_others (c : Dev nD) (Φ : Dev nD → sProp 𝕄) :
    bigSep Finset.univ Φ = iprop(Φ c ∗ bigSep Finset.univ fun r : Fin 15 => Φ (pl c r)) := by
  have e : (Finset.univ : Finset (Dev nD)).erase c = Finset.univ.map ⟨pl c, pl_inj c⟩ := by
    ext i
    simp only [Finset.mem_erase, Finset.mem_univ, and_true, Finset.mem_map, Function.Embedding.coeFn_mk, true_and]
    exact ⟨fun h => pl_surj c i h, fun ⟨r, h⟩ => h ▸ pl_ne c r⟩
  rw [bigSep_univ_split c, e, bigSep_map]
  rfl

/-- In the kernel's order, or backwards, a conjunction over the distances is the same. -/
theorem over_ord (Φ : Fin 15 → sProp 𝕄) : bigSep Finset.univ Φ = bigSepL ord Φ := bigSep_univ_eq_bigSepL ord ord_univ ord_nodup Φ
/-- A conjunction over all distances, written out in the reverse of the kernel's order. -/
theorem over_back (Φ : Fin 15 → sProp 𝕄) : bigSep Finset.univ Φ = bigSepL [7, 8, 6, 9, 5, 10, 4, 11, 3, 12, 2, 13, 1, 14, 0] Φ :=
  bigSep_univ_eq_bigSepL _ (by decide) (by decide) Φ

/-! ## The buffers, taken apart and put together -/

/-- A slot at some contents is a slot at any. -/
theorem slot_any (c i : Dev nD) (f) : slotPts (F := F) c i f ⊢ slotAny c i := by
  unfold slotAny
  iintro H
  iexists f
  iexact H

/-- `gathered` whole is its sixteen slots: the device's own, and one for each other device. -/
theorem slots_apart (c : Dev nD) (f : Buf (Elt F) ((c : Thread nD τ).loc cc0_scratch1)) :
    (((c : Thread nD τ).loc cc0_scratch1) ↦{fullShare} f : sProp 𝕄)
      ⊢ iprop(slotAny c c ∗ bigSep Finset.univ fun r : Fin 15 => slotAny c (pl c r)) := by
  rw [← split_others c (fun i => slotAny (F := F) c i)]
  refine (Entails.of_eq (Ring.pointsTo_blocks (ℓ := (c : Thread nD τ).loc cc0_scratch1) slotSet slot_disjoint slot_cover f)).trans
    (bigSep_mono fun i _ => ?_)
  exact slot_any c i f

/-- The slots come together to the buffer. -/
theorem slots_together (c : Dev nD) :
    iprop(slotAny c c ∗ bigSep Finset.univ fun r : Fin 15 => slotFull m ρ c (pl c r))
      ⊢ (iprop(∃ f : Buf (Elt F) ((c : Thread nD τ).loc cc0_scratch1), ((c : Thread nD τ).loc cc0_scratch1) ↦{fullShare} f) : sProp 𝕄) := by
  refine (sep_mono_right (bigSep_mono fun r _ => slot_any c (pl c r) (allRows m ρ))).trans ?_
  · rw [← split_others c (fun i => slotAny (F := F) c i)]
    exact Ring.pointsTo_blocks_join_exists (ℓ := (c : Thread nD τ).loc cc0_scratch1) slotSet slot_disjoint slot_cover (allRows m ρ)

/-- `chunk` whole is the fifteen shares the copies read through and what is left. -/
theorem chunk_apart (c : Dev nD) :
    chunkAt m ρ fullShare c ⊢ iprop(chunkAt m ρ restShare c ∗ bigSep Finset.univ fun r : Fin 15 => chunkAt m ρ (tokShare r) c) := by
  unfold chunkAt
  exact Transfers.pointsTo_toks_split fullShare 15

/-- The shares come together to the whole of `chunk`. -/
theorem chunk_together (c : Dev nD) :
    iprop(chunkAt m ρ restShare c ∗ bigSep Finset.univ fun r : Fin 15 => chunkAt m ρ (tokShare r) c) ⊢ chunkAt m ρ fullShare c := by
  unfold chunkAt
  exact Transfers.pointsTo_toks_join fullShare 15

/-- Nothing written yet. -/
theorem written_none (c : Dev nD) (f : Buf (Elt F) ((c : Thread nD τ).loc cc0_stg2_0)) :
    (((c : Thread nD τ).loc cc0_stg2_0) ↦{fullShare} f) ⊢ written m ρ c [] := by
  unfold written
  iintro H
  iexists f
  isplitr
  · ipureintro; intro i hi; cases hi
  iexact H

/-- Written on every device's rows, the result's buffer is the result. -/
theorem written_all (c : Dev nD) (is : List (Dev nD)) (h : ∀ i, i ∈ is) :
    written m ρ c is ⊢ (((c : Thread nD τ).loc cc0_stg2_0) ↦{fullShare} (result m ρ c : Buf (Elt F) ((c : Thread nD τ).loc cc0_stg2_0))) := by
  unfold written
  iintro ⟨%f, %hf, H⟩
  have e : f = (result m ρ c : Buf (Elt F) ((c : Thread nD τ).loc cc0_stg2_0)) := funext fun x =>
    hf ⟨(x (0 : Fin 2)).val / 768, by have : (x (0 : Fin 2)).val < 12288 := (x (0 : Fin 2)).isLt; show _ < 16; omega⟩ (h _) x rfl
  subst e
  iexact H

/-- Every device's rows are written in the end. -/
theorem rows_all (c i : Dev nD) :
    i ∈ [pl c 7, pl c 8, pl c 6, pl c 9, pl c 5, pl c 10, pl c 4, pl c 11, pl c 3, pl c 12, pl c 2, pl c 13, pl c 1, pl c 14, pl c 0, c] := by
  revert c i; decide

/-! ## The cells close -/

/-- A cell past its one round closes: its counter, at zero, is the device's again. -/
theorem close_cell (g : GSem nD τ sig) : iprop(knownAt m ρ g ∗ atPos EX g 1 ∅ 0) ⊢ (|={Set.univ}=> semVal g 0 : sProp 𝕄) := by
  unfold knownAt
  iintro ⟨⟨%κ, #HI, #HR⟩, Hat⟩
  imod (Rounds.cell_close EX (plan m ρ) (Set.mem_univ κ) (fun h => h) (R := 0 + 1) (duties_later m ρ g)) $$ [Hat] with Hz
  · isplitr; · iexact HI
    iexact Hat
  imodintro
  iexact Hz

/-- Fifteen cells closed at once. -/
theorem close_cells (g : Fin 15 → GSem nD τ sig) (hg : ∀ r, known m ρ K ⊢ knownAt m ρ (g r)) :
    iprop(known m ρ K ∗ bigSep Finset.univ fun r => atPos EX (g r) 1 ∅ 0) ⊢ (|={Set.univ}=> bigSep Finset.univ fun r => semVal (g r) 0 : sProp 𝕄) :=
  (bigSep_with_persistent fun r _ => (sep_mono_left (hg r)).trans (close_cell m ρ (g r))).trans (bigSep_fupd _ _)

/-! ## The body -/

/-- What the body starts from on device `c`. -/
def ready (c : Dev nD) : sProp 𝕄 :=
  iprop(owing c (owed₀ c)
    ∗ (bigSep Finset.univ fun r => dutyTok EX (barCell (pl c r)) 0 (rv r))
    ∗ (bigSep Finset.univ fun r => dutyTok EX (sndCell c r) 0 0) ∗ (bigSep Finset.univ fun r => dutyTok EX (rcvCell (pl c r) c) 0 0)
    ∗ cred (tallyAt (barCell c) () 15) ∗ (bigSep Finset.univ fun r => cred (tallyAt (rcvCell c (pl c r)) () N))
    ∗ atPos EX (barCell c) 0 ∅ 0 ∗ (bigSep Finset.univ fun r => atPos EX (sndCell c r) 0 ∅ 0)
    ∗ (bigSep Finset.univ fun r => atPos EX (rcvCell c (pl c r)) 0 ∅ 0)
    ∗ (((c : Thread nD τ).loc cc0_stg0_0) ↦{fullShare} aStg m ρ c) ∗ (((c : Thread nD τ).loc cc0_stg1_0) ↦{fullShare} bStg m ρ c)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- What it ends with: the result in its buffer, the inputs as they were, its cells closed, nothing owed. -/
def finished (c : Dev nD) : sProp 𝕄 :=
  iprop(owing c 0
    ∗ semVal (barCell c) 0 ∗ (bigSep Finset.univ fun r => semVal (sndCell c r) 0) ∗ (bigSep Finset.univ fun r => semVal (rcvCell c (pl c r)) 0)
    ∗ (((c : Thread nD τ).loc cc0_stg0_0) ↦{fullShare} aStg m ρ c) ∗ (((c : Thread nD τ).loc cc0_stg1_0) ↦{fullShare} bStg m ρ c)
    ∗ (((c : Thread nD τ).loc cc0_stg2_0) ↦{fullShare} (result m ρ c : Buf (Elt F) ((c : Thread nD τ).loc cc0_stg2_0)))
    ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- The signals are all to make. -/
theorem signals_start (c : Dev nD) :
    iprop(owing c (owed₀ c) ∗ (bigSep Finset.univ fun r => dutyTok EX (barCell (pl c r)) 0 (rv r)) ∗ (bigSep Finset.univ fun r => slotAny (F := F) c (pl c r)))
      ⊢ signals c ord := by
  unfold signals owed₀
  rw [← over_ord, bigSep_sep']

/-- The copies are all to make. -/
theorem copies_start (c : Dev nD) :
    iprop(owing c (owedRcv c ord) ∗ (bigSep Finset.univ fun r => dutyTok EX (sndCell c r) 0 0) ∗ (bigSep Finset.univ fun r => dutyTok EX (rcvCell (pl c r) c) 0 0)
        ∗ (bigSepL ord fun r => slotAny (F := F) (pl c r) c) ∗ (bigSep Finset.univ fun r => chunkAt m ρ (tokShare r) c))
      ⊢ copies m ρ c ord [] := by
  unfold copies
  rw [← over_ord, ← over_ord, bigSep_sep', bigSep_sep', bigSep_sep', bigSepL_nil]
  iintro ⟨HO, H1, H2, H3, H4⟩
  isplitl [HO]; · iexact HO
  isplitl
  · isplitl [H1]; · iexact H1
    isplitl [H2]; · iexact H2
    isplitl [H3] <;> iassumption
  iempintro

/-- The receive credits and positions, in the kernel's order. -/
theorem waits_start (c : Dev nD) :
    iprop((bigSep Finset.univ fun r => cred (tallyAt (rcvCell c (pl c r)) () N)) ∗ (bigSep Finset.univ fun r => atPos EX (rcvCell c (pl c r)) 0 ∅ 0))
      ⊢ (bigSepL ord fun r => iprop(cred (tallyAt (rcvCell c (pl c r)) () N) ∗ atPos EX (rcvCell c (pl c r)) 0 ∅ 0) : sProp 𝕄) := by
  rw [← over_ord, bigSep_sep']

/-- All the rows have come. -/
theorem arrivals_done (c : Dev nD) :
    arrivals m ρ c [] [7, 8, 6, 9, 5, 10, 4, 11, 3, 12, 2, 13, 1, 14, 0]
      ⊢ iprop(owing c 0 ∗ (bigSep Finset.univ fun r => atPos EX (rcvCell c (pl c r)) 1 ∅ 0) ∗ (bigSep Finset.univ fun r => slotFull m ρ c (pl c r))) := by
  unfold arrivals
  rw [← over_back, bigSep_sep']
  iintro ⟨HO, -, H⟩
  isplitl [HO]; · iexact HO
  iexact H

/-- What the last waits start from. -/
theorem returns_start (c : Dev nD) :
    iprop(owing c 0 ∗ (bigSepL [7, 8, 6, 9, 5, 10, 4, 11, 3, 12, 2, 13, 1, 14, 0] fun r => cred (tallyAt (sndCell c r) () N))
        ∗ (bigSep Finset.univ fun r => atPos EX (sndCell c r) 0 ∅ 0))
      ⊢ returns m ρ c ord [] := by
  unfold returns
  rw [← over_back, ← over_ord, bigSep_sep', bigSepL_nil]
  iintro ⟨HO, H1, H2⟩
  isplitl [HO]; · iexact HO
  isplitl
  · isplitl [H1] <;> iassumption
  iempintro

/-- All the shares of `chunk` are back. -/
theorem returns_done (c : Dev nD) :
    returns m ρ c [] [7, 8, 6, 9, 5, 10, 4, 11, 3, 12, 2, 13, 1, 14, 0]
      ⊢ iprop(owing c 0 ∗ (bigSep Finset.univ fun r => atPos EX (sndCell c r) 1 ∅ 0) ∗ (bigSep Finset.univ fun r => chunkAt m ρ (tokShare r) c)) := by
  unfold returns
  rw [← over_back, bigSep_sep']
  iintro ⟨HO, -, H⟩
  isplitl [HO]; · iexact HO
  iexact H

variable {h0 : (aM : Memref sig .tc .vmem S768x384 .f32).IsWhole} {h1 : (bM : Memref sig .tc .vmem S384x768 .f32).IsWhole}
  {h2 : (oM : Memref sig .tc .vmem S12288x768 .f32).IsWhole} {h3 : (chM : Memref sig .tc .vmem S768x384 .bf16).IsWhole}
  {h4 : (gM : Memref sig .tc .vmem S16x768x384 .bf16).IsWhole}

set_option maxRecDepth 8000 in
/-- The body, from start to end, at every device. -/
theorem body_run (c : Dev nD) {Q : PUnit → sProp 𝕄} : iprop(known m ρ K ∗ levAts lab lev ∗ ready m ρ c)
    ⊢ iprop((finished m ρ c -∗ Q ⟨⟩) -∗ runs c (cc0_body (F := F) aM h0 bM h1 oM h2 chM h3 gM h4 cc0_scratch2 cc0_scratch3) Q) := by
  unfold ready
  iintro ⟨#HK, #Hlev, HO, HtB, HtS, HtR, HcB, HcR, HaB, HaS, HaR, HA, HB, ⟨%fo, Ho⟩, Hch, ⟨%fg, Hg⟩⟩ HQ
  unfold runs
  simp only [cc0_body_eq_skeleton]
  unfold cc0_body_skel
  -- the handshake
  ihave Hg := (slots_apart c fg) $$ Hg
  icases Hg with ⟨Hown, Hg⟩
  ihave Hs := (signals_start c) $$ [HO HtB Hg]
  · isplitl [HO]; · iexact HO
    isplitl [HtB] <;> iassumption
  rw [wp_bind]
  iapply (part1 m ρ K c) $$ [Hs]; (isplitr <;> iassumption); iintro %v2 %v24 %w Hs
  rw [wp_bind]
  iapply (part2 m ρ K c v2 v24 w) $$ [Hs]; (isplitr <;> iassumption); iintro %v48 %w' Hs
  rw [wp_bind]
  iapply (part3 m ρ K c v2 v48 w') $$ [Hs HcB HaB HA HB Hch]
  · isplitr; · iexact HK
    isplitr; · iexact Hlev
    isplitl [Hs]; · iexact Hs
    isplitl [HcB]; · iexact HcB
    isplitl [HaB]; · iexact HaB
    isplitl [HA]; · iexact HA
    isplitl [HB] <;> iassumption
  iintro %v74 ⟨HO, HaB, Hslots, HA, HB, Hch⟩
  -- the copies
  ihave Hch := (chunk_apart m ρ c) $$ Hch
  icases Hch with ⟨Hrest, Hch⟩
  ihave Hs := (copies_start m ρ c) $$ [HO HtS HtR Hslots Hch]
  · isplitl [HO]; · iexact HO
    isplitl [HtS]; · iexact HtS
    isplitl [HtR]; · iexact HtR
    isplitl [Hslots] <;> iassumption
  rw [wp_bind]
  iapply (part4 m ρ K c _ _ v2 v74) $$ [Hs]; (isplitr <;> iassumption); iintro Hs
  rw [wp_bind]
  iapply (part5 m ρ K c _ _ v2) $$ [Hs]; (isplitr <;> iassumption); iintro Hs
  rw [wp_bind]
  iapply (part6 m ρ K c _ _ v2) $$ [Hs]; (isplitr <;> iassumption); iintro %v174 Hs
  rw [wp_bind]
  iapply (part7 m ρ K c _ _ v2 v174) $$ [Hs]; (isplitr <;> iassumption); iintro Hs
  -- the blocks
  ihave Hin := (waits_start c) $$ [HcR HaR]
  · isplitl [HcR] <;> iassumption
  ihave Ho := (written_none m ρ c fo) $$ Ho
  rw [wp_bind]
  iapply (part8 m ρ K c [14, 1, 13, 2, 12, 3, 11, 4, 10, 5, 9, 6, 8, 7] _ [] [] [] v2) $$ [Hs Hrest Ho Hin]
  · isplitr; · iexact HK
    isplitl [Hs]; · iexact Hs
    isplitl [Hrest]; · iexact Hrest
    isplitl [Ho] <;> iassumption
  iintro %v229 ⟨Hd, Hrest, Ho, Ha⟩
  rw [wp_bind]
  iapply (part9 m ρ K c _ _ _ v2 v229) $$ [Ha Ho]
  · isplitr; · iexact HK
    isplitl [Ha] <;> iassumption
  iintro %v270 ⟨Ha, Ho⟩
  rw [wp_bind]
  iapply (part10 m ρ K c _ _ _ v2 v270) $$ [Ha Ho]
  · isplitr; · iexact HK
    isplitl [Ha] <;> iassumption
  iintro ⟨Ha, Ho⟩
  rw [wp_bind]
  iapply (part11 m ρ K c _ _ _ v2) $$ [Ha Ho]
  · isplitr; · iexact HK
    isplitl [Ha] <;> iassumption
  iintro ⟨Ha, Ho⟩
  rw [wp_bind]
  iapply (part12 m ρ K c _ _ _ v2) $$ [Ha Ho]
  · isplitr; · iexact HK
    isplitl [Ha] <;> iassumption
  iintro %v363 ⟨Ha, Ho⟩
  rw [wp_bind]
  iapply (part13 m ρ K c _ _ _ v2 v363) $$ [Ha Ho]
  · isplitr; · iexact HK
    isplitl [Ha] <;> iassumption
  iintro %v394 ⟨Ha, Ho⟩
  rw [wp_bind]
  iapply (part14 m ρ K c _ _ _ v2 v394) $$ [Ha Ho]
  · isplitr; · iexact HK
    isplitl [Ha] <;> iassumption
  iintro %v424 %w'' ⟨Ha, Ho⟩
  rw [wp_bind]
  iapply (part15 m ρ K c _ _ _ v2 v424 w'') $$ [Ha Ho]
  · isplitr; · iexact HK
    isplitl [Ha] <;> iassumption
  iintro ⟨Ha, Ho⟩
  ihave Ho := (written_all m ρ c _ (rows_all c)) $$ Ho
  ihave Ha := (arrivals_done m ρ c) $$ Ha
  icases Ha with ⟨HO, HaR, Hfull⟩
  -- the copies have left
  ihave Hs := (returns_start m ρ c) $$ [HO Hd HaS]
  · isplitl [HO]; · iexact HO
    isplitl [Hd] <;> iassumption
  rw [wp_bind]
  iapply (part16 m ρ K c _ _) $$ [Hs]; (isplitr <;> iassumption); iintro Hs
  rw [wp_bind]
  iapply (part17 m ρ K c _ _) $$ [Hs]; (isplitr <;> iassumption); iintro Hs
  simp only [Prog.lift, Prog.bind_op, Prog.bind_ret, Prog.pure_eq_ret]
  iapply (step_return m ρ K c 7 _ _ _ (k0_off2_inb c) _ (snd_sem _ _ 7 rfl)) $$ [Hs]; (isplitr <;> iassumption); iintro Hs
  ihave Hs := (returns_done m ρ c) $$ Hs
  icases Hs with ⟨HO, HaS, Hch⟩
  ihave Hch := (chunk_together m ρ c) $$ [Hrest Hch]
  · isplitl [Hrest] <;> iassumption
  ihave Hg := (slots_together m ρ c) $$ [Hown Hfull]
  · isplitl [Hown] <;> iassumption
  ihave HKB := (known_bar m ρ K c) $$ HK
  imod (close_cell m ρ (barCell c)) $$ [HKB HaB] with HzB
  · isplitl [HKB] <;> iassumption
  imod (close_cells m ρ K (fun r => sndCell c r) (known_snd m ρ K c)) $$ [HaS] with HzS
  · isplitr; · iexact HK
    iexact HaS
  imod (close_cells m ρ K (fun r => rcvCell c (pl c r)) (known_rcv m ρ K c)) $$ [HaR] with HzR
  · isplitr; · iexact HK
    iexact HaR
  rw [wp_ret]
  imodintro
  iapply HQ
  unfold finished
  isplitl [HO]; · iexact HO
  isplitl [HzB]; · iexact HzB
  isplitl [HzS]; · iexact HzS
  isplitl [HzR]; · iexact HzR
  isplitl [HA]; · iexact HA
  isplitl [HB]; · iexact HB
  isplitl [Ho]; · iexact Ho
  isplitl [Hch]
  · iexists (rowsOf m ρ c : Buf (Elt F) ((c : Thread nD τ).loc cc0_scratch0))
    ihave Hch := (Entails.of_eq (chunk_whole m ρ fullShare c)) $$ Hch
    iexact Hch
  iexact Hg

end Cert.Gather

end
-- ==== Proof.Run.lean ====
/-
The launch and the run: what each device starts with, dealt from the launch state, and what the whole program's every
execution ends with, for any float values.
-/
module

public import proofs.«01_k».proof.Proof.Body
public import proofs.«01_k».proof.Proof.Gen.KernelIdeal.Points

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GU ℕ

variable (m : (ℓ : Loc nD τ sig) → Buf (Elt F) ℓ) (ρ : Dev nD → PrngReg)

/-! ## What the body holds before and after -/

/-- The exchange's state that stays with device `c`: its positions, the tokens of the duties it pays, and the counter of
    the receive semaphore nobody uses, its own. -/
def held (c : Dev nD) : sProp 𝕄 :=
  iprop(atPos EX (barCell c) 0 ∅ 0 ∗ (bigSep Finset.univ fun r => atPos EX (sndCell c r) 0 ∅ 0)
    ∗ (bigSep Finset.univ fun r => atPos EX (rcvCell c (pl c r)) 0 ∅ 0)
    ∗ (bigSep Finset.univ fun r => dutyTok EX (barCell (pl c r)) 0 (rv r))
    ∗ (bigSep Finset.univ fun r => dutyTok EX (sndCell c r) 0 0) ∗ (bigSep Finset.univ fun r => dutyTok EX (rcvCell (pl c r) c) 0 0)
    ∗ semVal (rcvCell c c) 0)

/-- That, and what is known of all cells under some names. -/
def dealt (c : Dev nD) : sProp 𝕄 := iprop(∃ K, known m ρ K ∗ held (F := F) c)

/-- What device `c` starts from: that, the credit of what it will be sent, and the order of the waits. -/
def start (c : Dev nD) : sProp 𝕄 :=
  iprop(dealt m ρ c ∗ cred (tallyAt (barCell c) () 15) ∗ (bigSep Finset.univ fun r => cred (tallyAt (rcvCell c (pl c r)) () N)) ∗ levAts lab lev)

/-- The two scratch buffers at whatever they hold. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f))

/-- Before the body. -/
def before₀ (c : Dev nD) : sProp 𝕄 := iprop(start m ρ c ∗ scratch (F := F) c)
/-- After it: every cell closed. -/
def after₀ (c : Dev nD) : sProp 𝕄 :=
  iprop(scratch (F := F) c ∗ semVal (barCell c) 0 ∗ (bigSep Finset.univ fun r => semVal (sndCell c r) 0)
    ∗ (bigSep Finset.univ fun r => semVal (rcvCell c (pl c r)) 0) ∗ semVal (rcvCell c c) 0)

/-- The pipeline's data: the arrays as they are at launch, the inputs staged and left so, the result left in its stage. -/
def dats (_ : Fin 1) (c : Dev nD) : Dat τ (Elt F) Unit ℕ GU ℕ cfg0 c where
  A w := (s₀ m ρ).mem ((cfg0.win w).arr.view.loc (c : Thread nD τ))
  after w _ := match w with
    | ⟨0, _⟩ => aStg m ρ c
    | ⟨1, _⟩ => bStg m ρ c
    | ⟨2, _⟩ => result m ρ c
  Φ t := match t with
    | ⟨0, _⟩ => before₀ m ρ c
    | ⟨_ + 1, _⟩ => after₀ (F := F) c
  q _ := fullShare
  owed t := match t with
    | ⟨0, _⟩ => owed₀ c
    | ⟨_ + 1, _⟩ => 0

/-- The one grid point. -/
abbrev t₀ : Fin cfg0.N := t0_0

/-- Owning a whole stage is owning its buffer. -/
theorem owns_eq (c : Dev nD) (b : Ref sig .tc) (X : b.ty.Contents (Elt F)) :
    (owns (Ix := Unit) (Name := ℕ) (U := GU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A stage's buffer at given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline hands the body. -/
def bodyPre (c : Dev nD) : sProp 𝕄 :=
  iprop(before₀ m ρ c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))

/-- What it takes back. -/
def bodyPost (c : Dev nD) : sProp 𝕄 :=
  iprop(after₀ (F := F) c ∗ (dats m ρ 0 c).owesAt () t₀.succ ∗ stg c cc0_stg0_0 (aStg m ρ c) ∗ stg c cc0_stg1_0 (bStg m ρ c)
    ∗ stg c cc0_stg2_0 (result m ρ c))

set_option maxRecDepth 8000 in
/-- The body from what the pipeline hands it to what the pipeline takes back. -/
theorem body_spec (c : Dev nD) : bodyPre m ρ c ⊢ wp frame (wpE (defs₀ (F := F)) noVariants c none) Set.univ
    (cc0_body (Memref.whole cc0_stg0_0) (Memref.isWhole_whole _) (Memref.whole cc0_stg1_0) (Memref.isWhole_whole _)
      (Memref.whole cc0_stg2_0) (Memref.isWhole_whole _) (Memref.whole cc0_scratch0) (Memref.isWhole_whole _)
      (Memref.whole cc0_scratch1) (Memref.isWhole_whole _) cc0_scratch2 cc0_scratch3) (fun _ => bodyPost m ρ c) := by
  unfold bodyPre before₀ start dealt held scratch
  iintro ⟨⟨⟨⟨%K, #HK, HaB, HaS, HaR, HtB, HtS, HtR, Hidle⟩, HcB, HcR, #Hlev⟩, Hch, Hg⟩, Ho, ⟨%d0, %g0, %hg0, HA⟩, ⟨%d1, %g1, %hg1, HB⟩, ⟨%d2, %g2, %hg2, Hout⟩⟩
  have ha : g0 = aStg m ρ c := by rw [hg0]; unfold Dat.before; rw [if_pos (fetch0_0 t₀)]; rfl
  have hb : g1 = bStg m ρ c := by rw [hg1]; unfold Dat.before; rw [if_pos (fetch0_1 t₀)]; rfl
  subst ha hb
  unfold Dat.owesAt Pipeline.owesWithin
  icases Ho with ⟨%W, %hW, HO⟩
  rw [show (dats m ρ 0 c).owed t₀.castSucc = owed₀ c from rfl]
  iapply (body_run m ρ K c) $$ [HO HaB HaS HaR HtB HtS HtR HcB HcR HA HB Hout Hch Hg]
  · isplitr; · iexact HK
    isplitr; · iexact Hlev
    unfold ready owing
    isplitl [HO]; · iexists W; iexact HO
    isplitl [HtB]; · iexact HtB
    isplitl [HtS]; · iexact HtS
    isplitl [HtR]; · iexact HtR
    isplitl [HcB]; · iexact HcB
    isplitl [HcR]; · iexact HcR
    isplitl [HaB]; · iexact HaB
    isplitl [HaS]; · iexact HaS
    isplitl [HaR]; · iexact HaR
    isplitl [HA]; · iexact HA
    isplitl [HB]; · iexact HB
    isplitl [Hout]; · iexists g2; iexact Hout
    isplitl [Hch] <;> iassumption
  iintro H
  unfold finished owing
  icases H with ⟨⟨%W', HO⟩, HzB, HzS, HzR, HA, HB, Hout, Hch, Hg⟩
  unfold bodyPost after₀ scratch Dat.owesAt Pipeline.owesWithin
  rw [show (dats m ρ 0 c).owed t₀.succ = 0 from rfl]
  isplitl [Hch Hg HzB HzS HzR Hidle]
  · isplitl [Hch Hg]
    · isplitl [Hch] <;> iassumption
    isplitl [HzB]; · iexact HzB
    isplitl [HzS]; · iexact HzS
    isplitl [HzR] <;> iassumption
  isplitl [HO]
  · iexists W'
    isplitr; · ipureintro; exact fun _ _ => Or.inl trivial
    iexact HO
  isplitl [HA]
  · iexists _; isplitr; · (ipureintro; rfl)
    iexact HA
  isplitl [HB]
  · iexists _; isplitr; · (ipureintro; rfl)
    iexact HB
  iexists _; isplitr; · (ipureintro; rfl)
  iexact Hout

set_option maxRecDepth 8000 in
/-- The obligation the launch theorem takes on the body. -/
theorem body_obligation (c : Dev nD) : BodyObligation (dats (F := F) m ρ 0 c) (defs₀ (F := F)) noVariants () Set.univ := fun t => by
  rw [fin_N0 t]
  rw [show (bigSep Finset.univ : (Fin cfg0.W → sProp 𝕄) → sProp 𝕄) = fun Φ => iprop(Φ (0 : Fin 3) ∗ Φ (1 : Fin 3) ∗ Φ (2 : Fin 3)) from funext bigSep_W0]
  simp only [owns_eq]
  exact body_spec m ρ c

end Cert.Gather

end
-- ==== Proof.Launch.lean ====
/-
The launch: what the devices start from is dealt out of the launch state, and the whole program runs.
-/
module

public import proofs.«01_k».proof.Proof.Run
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GU ℕ

variable (m : (ℓ : Loc nD τ sig) → Buf (Elt F) ℓ) (ρ : Dev nD → PrngReg)

/-! ## The cells and the tokens -/

/-- The kernel's own semaphores: fifteen to send on, one to receive on for each device. -/
abbrev ownSem : Fin 15 ⊕ Dev nD → SemLoc sig
  | .inl r => .dma (sndS r)
  | .inr i => .dma (rcvS i)

set_option maxRecDepth 20000 in
/-- These are exactly the semaphores of the kernel's own that no window uses. -/
theorem ownSem_facts : Pipeline.OwnSemFacts cfg0.spec ownSem := by decide

/-- The number of a send semaphore. -/
theorem sndS_val (r : Fin 15) : (sndS r : DmaSem sig).val = 4 + r.val := rfl
/-- The number of a receive semaphore. -/
theorem rcvS_val (i : Dev nD) : (rcvS i : DmaSem sig).val = 19 + i.val := rfl
/-- Different send semaphores differ. -/
theorem sndS_inj {r r' : Fin 15} (h : (SemLoc.dma (sndS r) : SemLoc sig) = .dma (sndS r')) : r = r' := by
  have := congrArg Fin.val (SemLoc.dma.inj h)
  rw [sndS_val, sndS_val] at this
  exact Fin.ext (by omega)
/-- Different receive semaphores differ. -/
theorem rcvS_inj {i i' : Dev nD} (h : (SemLoc.dma (rcvS i) : SemLoc sig) = .dma (rcvS i')) : i = i' := by
  have := congrArg Fin.val (SemLoc.dma.inj h)
  rw [rcvS_val, rcvS_val] at this
  exact Fin.ext (by omega)
/-- A send semaphore is never a receive semaphore. -/
theorem sndS_ne_rcvS (r : Fin 15) (i : Dev nD) : (SemLoc.dma (sndS r) : SemLoc sig) ≠ .dma (rcvS i) := fun h => by
  have := congrArg Fin.val (SemLoc.dma.inj h)
  have hr := r.isLt
  rw [sndS_val, rcvS_val] at this
  omega

/-- Different names of a device's cells are different semaphores. -/
theorem ciSem_inj (c : Dev nD) : Function.Injective (ciSem c) := by
  rintro (⟨⟩ | r | r) (⟨⟩ | r' | r') h
  · rfl
  · cases h
  · cases h
  · cases h
  · rw [sndS_inj h]
  · exact absurd h (sndS_ne_rcvS _ _)
  · cases h
  · exact absurd h.symm (sndS_ne_rcvS _ _)
  · rw [pl_inj c (rcvS_inj h)]

/-- Different devices or names give different cells. -/
theorem cell_inj : Function.Injective cell := by
  rintro ⟨c, k⟩ ⟨c', k'⟩ h
  have h1 : c = c' := congrArg (fun g : GSem nD τ sig => g.1.1) h
  subst h1
  exact congrArg (Prod.mk c) (ciSem_inj c (congrArg Prod.snd h))

/-- All the cells. -/
def cells : Finset (GSem nD τ sig) := Finset.univ.map ⟨cell, cell_inj⟩

/-- A device's own cells' duties: fifteen at its barrier cell, one at each of its send and receive cells. -/
abbrev Ti : Type := Fin 15 ⊕ (Fin 15 ⊕ Fin 15)
/-- The duty itself. -/
abbrev tokAt (x : Dev nD × Ti) : GSem nD τ sig × ℕ × Fin 15 := match x.2 with
  | .inl d => (barCell x.1, 0, d)
  | .inr k => (cell (x.1, .inr k), 0, 0)

/-- Different tokens are of different duties. -/
theorem tokAt_inj : Function.Injective tokAt := by
  rintro ⟨c, k⟩ ⟨c', k'⟩ h
  have h1 : c = c' := by
    rcases k with d | k <;> rcases k' with d' | k' <;> exact congrArg (fun g : GSem nD τ sig × ℕ × Fin 15 => g.1.1.1) h
  subst h1
  rcases k with d | k <;> rcases k' with d' | k'
  · rw [show d = d' from congrArg (fun g : GSem nD τ sig × ℕ × Fin 15 => g.2.2) h]
  · exact absurd (cell_inj (a₁ := (c, .inl ())) (a₂ := (c, .inr k')) (congrArg Prod.fst h)) (by simp)
  · exact absurd (cell_inj (a₁ := (c, .inr k)) (a₂ := (c, .inl ())) (congrArg Prod.fst h)) (by simp)
  · have := cell_inj (a₁ := (c, .inr k)) (a₂ := (c, .inr k')) (congrArg Prod.fst h)
    simp only [Prod.mk.injEq, true_and, Sum.inr.injEq] at this
    rw [this]

/-- All the duty tokens. -/
def toks : Finset (GSem nD τ sig × ℕ × Fin 15) := Finset.univ.map ⟨tokAt, tokAt_inj⟩

/-- The launch's ghost state: the pipeline's own, and the exchange's. -/
def u₀ : GU := (initOf (Pipeline.cells cfgs cellOf_inj) (Pipeline.launchToks cfgs cellOf_inj), initOf cells toks)

/-- A conjunction over a device's cells: at the barrier cell, at its send cells, at its receive cells. -/
theorem over_cells (Φ : Ci → sProp 𝕄) : bigSep Finset.univ Φ
    = iprop(Φ (.inl ()) ∗ (bigSep Finset.univ fun r => Φ (.inr (.inl r))) ∗ bigSep Finset.univ fun r => Φ (.inr (.inr r))) := by
  rw [bigSep_univ_sum, bigSep_univ_sum, bigSep_univ_eq_bigSepL [()] (by decide) (by decide)]
  rfl

/-- The tokens of device `c`'s own cells. -/
def minted (c : Dev nD) : sProp 𝕄 :=
  iprop((bigSep Finset.univ fun d => dutyTok EX (barCell c) 0 d) ∗ (bigSep Finset.univ fun r => dutyTok EX (sndCell c r) 0 0)
    ∗ bigSep Finset.univ fun r => dutyTok EX (rcvCell c (pl c r)) 0 0)

/-- What the launch's ghost state deals device `c`. -/
def G (c : Dev nD) : sProp 𝕄 :=
  iprop((bigSep Finset.univ fun k : Ci => roundState EX (plan m ρ) (cell (c, k)) 0)
    ∗ (bigSep Finset.univ fun k : Ci => iprop(atPos EX (cell (c, k)) 0 ∅ 0 ∗ reached EX (cell (c, k)) 0)) ∗ minted (F := F) c)

/-- A conjunction over all cells, device by device. -/
theorem over_all (Φ : GSem nD τ sig → sProp 𝕄) :
    bigSep cells Φ = bigSep Finset.univ fun c : Dev nD => bigSep Finset.univ fun k : Ci => Φ (cell (c, k)) := by
  unfold cells; rw [bigSep_map, bigSep_univ_prod]; rfl

/-- All the tokens, device by device. -/
theorem over_toks : bigSep toks (fun x => (dutyTok EX x.1 x.2.1 x.2.2 : sProp 𝕄)) = bigSep Finset.univ fun c : Dev nD => minted c := by
  unfold toks; rw [bigSep_map, bigSep_univ_prod]
  exact bigSep_congr fun c _ => by unfold minted; rw [bigSep_univ_sum, bigSep_univ_sum]; rfl

/-- The launch's ghost state dealt to the devices. -/
theorem fund : BI.own (EX (initOf cells toks)) ⊢ (|==> bigSep Finset.univ (G m ρ) : sProp 𝕄) := by
  iintro HX
  imod (Rounds.fund EX (plan m ρ) cells toks) $$ HX with ⟨Hst, Hr, Hat, Htok⟩
  imodintro
  ihave Hst' := (Entails.of_eq (over_all fun g => roundState EX (plan m ρ) g 0)) $$ Hst
  ihave Hat' := (Entails.of_eq (over_all (F := F) fun g => atPos EX g 0 ∅ 0)) $$ Hat
  ihave Hr' := (Entails.of_eq (over_all (F := F) fun g => reached EX g 0)) $$ Hr
  ihave Htok' := (Entails.of_eq (over_toks (F := F))) $$ Htok
  unfold G; simp only [bigSep_sep']
  isplitl [Hst']; · iexact Hst'
  isplitl [Hat' Hr']
  · isplitl [Hat'] <;> iassumption
  iexact Htok'

/-! ## The semaphores -/

/-- The kernel's own semaphores at zero: the send cells, the receive cells, and the device's receive cell for itself. -/
theorem own_eq (c : Dev nD) : (Pipeline.ownSems0 (Ix := Unit) (Name := ℕ) (U := GU) (Lvl := ℕ) (Val := Elt F) (τ := τ) ownSem c : sProp 𝕄)
    = iprop((bigSep Finset.univ fun r => semVal (sndCell c r) 0) ∗ semVal (rcvCell c c) 0
        ∗ bigSep Finset.univ fun r => semVal (rcvCell c (pl c r)) 0) := by
  unfold Pipeline.ownSems0
  rw [bigSep_univ_sum, split_others c fun i => (semVal ((c : Thread nD τ), ownSem (.inr i)) 0 : sProp 𝕄)]
  rfl

set_option maxRecDepth 20000 in
/-- The launch's other semaphore is the barrier's. -/
theorem unscoped_eq (c : Dev nD) : (unscopedSems0 c : sProp 𝕄) = semVal (barCell c) 0 := by
  unfold unscopedSems0; rw [bigSep_eq_bigSepL_of_eq [SemLoc.reg barS] (by decide) (by decide)]; rfl

/-- A device's counters at zero, cell by cell, and the one that is no cell. -/
theorem counters (c : Dev nD) :
    iprop(Pipeline.ownSems0 (Ix := Unit) (Name := ℕ) (U := GU) (Lvl := ℕ) (Val := Elt F) (τ := τ) ownSem c ∗ unscopedSems0 c)
      ⊢ (iprop((bigSep Finset.univ fun k : Ci => semVal (cell (c, k)) 0) ∗ semVal (rcvCell c c) 0) : sProp 𝕄) := by
  rw [own_eq, unscoped_eq, over_cells]
  iintro ⟨⟨HS, Hi, HR⟩, HB⟩
  isplitr [Hi]
  · isplitl [HB]; · iexact HB
    isplitl [HS] <;> iassumption
  iexact Hi

/-- A counter at zero with its cell's round state opens the cell, under some name. -/
theorem open_cells (c : Dev nD) :
    iprop((bigSep Finset.univ fun k : Ci => semVal (cell (c, k)) 0) ∗ bigSep Finset.univ fun k : Ci => roundState EX (plan m ρ) (cell (c, k)) 0)
      ⊢ (|={Set.univ}=> bigSep Finset.univ fun k => iprop(∃ κ : ℕ, cellInv EX (plan m ρ) κ (cell (c, k))) : sProp 𝕄) := by
  rw [← bigSep_sep']
  exact (bigSep_mono fun k _ => (Rounds.body_intro EX (plan m ρ) (cell (c, k))).trans inv_alloc).trans (bigSep_fupd _ _)

/-- One device's cells opened. -/
theorem alloc (c : Dev nD) :
    iprop(Pipeline.ownSems0 (Ix := Unit) (Name := ℕ) (U := GU) (Lvl := ℕ) (Val := Elt F) (τ := τ) ownSem c ∗ unscopedSems0 c ∗ G m ρ c)
      ⊢ |={Set.univ}=> iprop((bigSep Finset.univ fun k => iprop(∃ κ : ℕ, cellInv EX (plan m ρ) κ (cell (c, k))))
          ∗ (bigSep Finset.univ fun k => iprop(atPos EX (cell (c, k)) 0 ∅ 0 ∗ reached EX (cell (c, k)) 0)) ∗ minted (F := F) c ∗ semVal (rcvCell c c) 0) := by
  unfold G
  iintro ⟨Hos, Hus, Hst, Hat, Htok⟩
  ihave Hv := (counters (F := F) c) $$ [Hos Hus]
  · isplitl [Hos] <;> iassumption
  icases Hv with ⟨Hv, Hi⟩
  imod (open_cells m ρ c) $$ [Hv Hst] with Hinv
  · isplitl [Hv] <;> iassumption
  imodintro
  isplitl [Hinv]; · iexact Hinv
  isplitl [Hat]; · iexact Hat
  isplitl [Htok] <;> iassumption

/-! ## Dealing around -/

/-- The tokens of the duties device `c` pays. -/
def paying (c : Dev nD) : sProp 𝕄 :=
  iprop((bigSep Finset.univ fun r => dutyTok EX (barCell (pl c r)) 0 (rv r)) ∗ (bigSep Finset.univ fun r => dutyTok EX (sndCell c r) 0 0)
    ∗ bigSep Finset.univ fun r => dutyTok EX (rcvCell (pl c r) c) 0 0)

/-- Over all devices and distances, from the one end or from the other. -/
theorem other_end (Φ : Dev nD → Fin 15 → sProp 𝕄) :
    (bigSep Finset.univ fun c => bigSep Finset.univ fun r => Φ c r)
      = bigSep Finset.univ fun c => bigSep Finset.univ fun r => Φ (pl c r) (rv r) := by
  rw [← bigSep_univ_prod (fun x : Dev nD × Fin 15 => Φ x.1 x.2), bigSep_univ_equiv swap, ← bigSep_univ_prod (fun x : Dev nD × Fin 15 => Φ (pl x.1 x.2) (rv x.2))]
  rfl

/-- The tokens minted at the cells they belong to are dealt to the devices that pay the duties. -/
theorem around : (bigSep Finset.univ fun c : Dev nD => (minted c : sProp 𝕄)) ⊢ bigSep Finset.univ fun c : Dev nD => paying c := by
  unfold minted paying
  rw [bigSep_sep', bigSep_sep', bigSep_sep', bigSep_sep', other_end fun c d => (dutyTok EX (barCell c) 0 d : sProp 𝕄),
    other_end fun c r => (dutyTok EX (rcvCell c (pl c r)) 0 0 : sProp 𝕄)]
  simp only [pl_rv]
  exact Entails.refl _

/-- What a device keeps, as it comes out of the dealing. -/
theorem held_intro (c : Dev nD) :
    iprop((bigSep Finset.univ fun k : Ci => atPos EX (cell (c, k)) 0 ∅ 0) ∗ paying (F := F) c ∗ semVal (rcvCell c c) 0) ⊢ held (F := F) c := by
  rw [over_cells]
  unfold paying held
  iintro ⟨⟨HB, HS, HR⟩, ⟨HtB, HtS, HtR⟩, Hi⟩
  isplitl [HB]; · iexact HB
  isplitl [HS]; · iexact HS
  isplitl [HR]; · iexact HR
  isplitl [HtB]; · iexact HtB
  isplitl [HtS]; · iexact HtS
  isplitl [HtR] <;> iassumption

/-- All devices' parts as they come out of the dealing. -/
theorem all_held :
    iprop((bigSep Finset.univ fun c : Dev nD => bigSep Finset.univ fun k : Ci => atPos EX (cell (c, k)) 0 ∅ 0)
      ∗ (bigSep Finset.univ fun c : Dev nD => paying (F := F) c) ∗ bigSep Finset.univ fun c : Dev nD => semVal (rcvCell c c) 0)
      ⊢ (bigSep Finset.univ fun c : Dev nD => held (F := F) c : sProp 𝕄) := by
  rw [← bigSep_sep', ← bigSep_sep']
  exact bigSep_mono fun c _ => held_intro c

/-- What a device is dealt, with what is known of all cells, is what it holds. -/
theorem dealt_intro (K : Dev nD × Ci → ℕ) (c : Dev nD) : iprop(known m ρ K ∗ held (F := F) c) ⊢ dealt m ρ c := by
  unfold dealt
  iintro H
  iexists K
  iexact H

/-- All cells open: their names are made known everywhere, and the tokens dealt around. -/
theorem regroup :
    (bigSep Finset.univ fun c : Dev nD => iprop((bigSep Finset.univ fun k => iprop(∃ κ : ℕ, cellInv EX (plan m ρ) κ (cell (c, k))))
          ∗ (bigSep Finset.univ fun k => iprop(atPos EX (cell (c, k)) 0 ∅ 0 ∗ reached EX (cell (c, k)) 0)) ∗ minted (F := F) c ∗ semVal (rcvCell c c) 0) : sProp 𝕄)
      ⊢ bigSep Finset.univ (dealt m ρ) := by
  rw [bigSep_sep', bigSep_sep', bigSep_sep', ← bigSep_univ_prod (fun x : Dev nD × Ci => iprop(∃ κ : ℕ, cellInv EX (plan m ρ) κ (cell x))),
    bigSep_congr (s := Finset.univ) (fun (c : Dev nD) _ => bigSep_sep' Finset.univ (fun k : Ci => (atPos EX (cell (c, k)) 0 ∅ 0 : sProp 𝕄)) (fun k => reached EX (cell (c, k)) 0)),
    bigSep_sep', ← bigSep_univ_prod (fun x : Dev nD × Ci => (reached EX (cell x) 0 : sProp 𝕄))]
  iintro ⟨HI, ⟨Hat, #HR⟩, Htok, Hi⟩
  ihave HK := (BI.bigSep_exists_pi Finset.univ (fun (x : Dev nD × Ci) (κ : ℕ) => (cellInv EX (plan m ρ) κ (cell x) : sProp 𝕄))) $$ HI
  icases HK with ⟨%K, #HI⟩
  ihave Htk := (around (F := F)) $$ Htok
  iapply (bigSep_with_persistent (R := known m ρ K) fun c _ => dealt_intro m ρ K c)
  isplitr
  · unfold known; isplitl; · iexact HI
    iexact HR
  · iapply (all_held (F := F))
    isplitl [Hat]; · iexact Hat
    isplitl [Htk] <;> iassumption

/-- From the semaphores at zero and the launch's ghost state to what each device holds. -/
theorem glob : (bigSep Finset.univ fun c => iprop(Pipeline.ownSems0 (Ix := Unit) (Name := ℕ) (U := GU) (Lvl := ℕ) (Val := Elt F) (τ := τ) ownSem c ∗ unscopedSems0 c ∗ G m ρ c) : sProp 𝕄)
    ⊢ |={Set.univ}=> bigSep Finset.univ (dealt m ρ) :=
  ((bigSep_mono fun c _ => alloc m ρ c).trans (bigSep_fupd _ _)).trans (BI.fupd_mono (regroup m ρ))

/-! ## The credit of what is to come -/

/-- Barrier cells are equal on equal devices, -/
theorem bar_iff {a b : Dev nD} : barCell a = barCell b ↔ a = b :=
  ⟨fun h => congrArg (fun g : GSem nD τ sig => g.1.1) h, fun h => h ▸ rfl⟩
/-- receive cells on equal devices for equal devices, -/
theorem rcv_iff {a b i j : Dev nD} : rcvCell a i = rcvCell b j ↔ a = b ∧ i = j :=
  ⟨fun h => ⟨congrArg (fun g : GSem nD τ sig => g.1.1) h, rcvS_inj (congrArg Prod.snd h)⟩, fun h => by rw [h.1, h.2]⟩
/-- A receive cell is never a barrier cell. -/
theorem rcv_ne_bar (a b i : Dev nD) : rcvCell a i ≠ barCell b := fun h => by cases congrArg Prod.snd h

/-- What device `d` owes `c`'s barrier cell at the start: a unit for each distance that leads to `c`. -/
theorem owed_bar (d c : Dev nD) : owed₀ d (barCell c) () = (ord.map fun r => if c = pl d r then 1 else 0).sum := by
  unfold owed₀
  rw [owedBar_apply, owedRcv_apply]
  simp only [bar_iff, (rcv_ne_bar _ _ _).symm, if_false]
  simp

/-- All devices together owe a barrier cell a unit for each other device. -/
theorem sum_bar : ∀ c : Dev nD, (∑ d : Dev nD, (ord.map fun r => if c = pl d r then 1 else 0).sum) = 15 := by decide

/-- A sum over the distances with one term. -/
theorem count_one (n : ℕ) (r : Fin 15) : (ord.map fun r' => if r' = r then n else 0).sum = n := by
  fin_cases r <;> simp [ord]

/-- What device `d` owes `c`'s receive cell for `i`: a chunk, when `d` is `i`. -/
theorem owed_rcv (d c : Dev nD) (r : Fin 15) : owed₀ d (rcvCell c (pl c r)) () = if d = pl c r then N else 0 := by
  unfold owed₀
  rw [owedBar_apply, owedRcv_apply]
  simp only [rcv_iff, rcv_ne_bar, if_false]
  by_cases h : d = pl c r
  · subst h
    rw [if_pos rfl]
    refine Eq.trans ?_ (count_one N (rv r))
    rw [show (ord.map fun _ : Fin 15 => 0).sum = 0 by simp, Nat.zero_add]
    refine congrArg (fun l : List ℕ => l.sum) (List.map_congr_left fun r' _ => ?_)
    refine if_congr ⟨fun h => pl_inj (pl c r) (by rw [pl_rv]; exact h.1.symm), fun h => ⟨by rw [h, pl_rv], rfl⟩⟩ rfl rfl
  · rw [if_neg h]
    simp [Ne.symm h]

/-- The launch credit of a barrier cell. -/
theorem launch_bar (c : Dev nD) :
    tallyOn (barCell c) (launchCredit (Pipeline.owing owed₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, sum_bar]

/-- The launch credit of a receive cell. -/
theorem launch_rcv (c : Dev nD) (r : Fin 15) :
    tallyOn (rcvCell c (pl c r)) (launchCredit (Pipeline.owing owed₀) 0 (rcvCell c (pl c r)))
      = (tallyAt (rcvCell c (pl c r)) () N : CellTallies nD τ sig Unit) := by
  unfold tallyAt; refine congrArg _ (Finsupp.ext fun u => ?_); cases u
  rw [Pipeline.launchCredit_owing, Finsupp.single_eq_same, Finset.sum_congr rfl fun d _ => owed_rcv d c r,
    Finset.sum_ite_eq' Finset.univ (pl c r) fun _ => N, if_pos (Finset.mem_univ _)]

/-- The launch credit of device `c`: fifteen units at its barrier cell and a chunk at each of its receive cells. -/
theorem credits (c : Dev nD) : (Pipeline.launchCred owed₀ c : sProp 𝕄)
    ⊢ iprop(cred (tallyAt (barCell c) () 15) ∗ bigSep Finset.univ fun r => cred (tallyAt (rcvCell c (pl c r)) () N)) := by
  unfold Pipeline.launchCred
  rw [bigSep_univ_at _ (SemLoc.reg barS), launch_bar]
  refine sep_mono_right ?_
  simp only [← launch_rcv]
  have hsub : Finset.univ.map ⟨fun r : Fin 15 => (SemLoc.dma (rcvS (pl c r)) : SemLoc sig), fun r r' h => pl_inj c (rcvS_inj h)⟩
      ⊆ Finset.univ.erase (SemLoc.reg barS) := fun x hx => by
    obtain ⟨r, hr, rfl⟩ := Finset.mem_map.mp hx
    exact Finset.mem_erase.mpr ⟨(fun h => by cases h), Finset.mem_univ _⟩
  refine (bigSep_subset hsub).trans ?_
  rw [bigSep_map]
  exact Entails.refl _

/-! ## The side conditions -/

/-- The windows hold their arrays whole. -/
theorem share_eq (c : Dev nD) (w : Fin cfg0.W) : (dats m ρ 0 c).share w = fullShare := by unfold Dat.share; split <;> rfl

/-- What the launch gives a device is what it starts from. -/
theorem start_intro (c : Dev nD) :
    iprop(Pipeline.unscopedRestP Pipeline.Prefetch.none cfg0.spec c (fun b => m ((c : Thread nD τ).loc b)) ∗ levAts lab lev
        ∗ Pipeline.launchCred owed₀ c ∗ prngReg c (ρ c) ∗ dealt m ρ c)
      ⊢ |={Set.univ}=> iprop(start m ρ c ∗ emp) := by
  iintro ⟨-, Hlev, Hcr, -, HG⟩
  ihave Hc := (credits (F := F) c) $$ Hcr
  icases Hc with ⟨H1, HN⟩
  imodintro
  unfold start
  isplitl
  · isplitl [HG]; · iexact HG
    isplitl [H1]; · iexact H1
    isplitl [HN] <;> iassumption
  · iempintro

/-- With the scratch buffers, the body's start; -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl, scopedRest0_eq]
  unfold before₀ scratch
  iintro ⟨Hs, -, Hr⟩
  isplitl [Hs] <;> iassumption

/-- and the body's end gives back the scratch buffers and all semaphores at zero. -/
theorem leave (c : Dev nD) :
    (dats m ρ 0 c).Φ (Fin.last cfg0.N) ⊢ iprop(unscopedSems0 c ∗ Pipeline.ownSems0 ownSem c ∗ Pipeline.scopedRest cfg0.spec c) := by
  rw [show (dats m ρ 0 c).Φ (Fin.last cfg0.N) = after₀ (F := F) c from rfl, scopedRest0_eq, own_eq, unscoped_eq]
  unfold after₀ scratch
  iintro ⟨Hr, HzB, HzS, HzR, Hi⟩
  isplitl [HzB]; · iexact HzB
  isplitl [HzS HzR Hi]
  · isplitl [HzS]; · iexact HzS
    isplitl [Hi] <;> iassumption
  iexact Hr

/-- The pipeline's own waits are allowed. -/
theorem waits (c : Dev nD) : (levAts lab lev : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- An array's final contents on device `c`. -/
def finalA (c : Dev nD) (w : Fin cfg0.W) : Buf (Elt F) ((cfg0.win w).arr.view.loc (c : Thread nD τ)) := (dats m ρ 0 c).arrAt w cfg0.N

/-- A final state with every device's arrays as computed. -/
def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters, for any float values, every weakly fair execution of the program on the sixteen
    devices terminates, with each device's arrays as computed and every semaphore counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSem_facts (Pipeline.PreFacts.none _) EPipe defs₀ noVariants m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := lab) (lv := lev) (hL := lab_ne) (hwaits := waits m ρ)
    (G := G m ρ) (G' := dealt m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Gather

end
-- ==== Proof.Value.lean ====
/-
The value: read over the extended reals, the array every device ends with is the reference's product; and the claims.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.MatmulPlain
public import Idealize.ShloMosaic.Lib.StackMember
public import Idealize.ShloMosaic.Lib.Layout

@[expose] public section

noncomputable section

namespace Cert.Gather

open Cert.KernelIdeal Cert.KernelIdeal.Gen

open Idealize.ShloMosaic
open Idealize.ShloMosaic.TcCoe
open Idealize.ShloMosaic.ValueIdx
open Idealize.SL.Sem

variable {F : FTy → Type} [FloatOps F]

variable (m : (ℓ : Loc nD τ sig) → Buf (Elt F) ℓ) (ρ : Dev nD → PrngReg)

/-! ## What the arrays hold at the end -/

/-- A's rows end as they were, -/
theorem final_A (c : Dev nD) : finalA m ρ c (0 : Fin 3) = m ((c : Thread nD τ).loc main_arg0) :=
  (dats (F := F) m ρ 0 c).arrAt_in (0 : Fin 3) rfl _
/-- and so does B. -/
theorem final_B (c : Dev nD) : finalA m ρ c (1 : Fin 3) = m ((c : Thread nD τ).loc main_arg1) :=
  (dats (F := F) m ρ 0 c).arrAt_in (1 : Fin 3) rfl _

/-- The result array, read through its window, is what the body left in the window's stage. -/
theorem final_out (c : Dev nD) : (win0_2.blk (0 : Fin 1)).view.read (Elt F) (finalA m ρ c (2 : Fin 3)) = result m ρ c := by
  have h := (dats m ρ 0 c).read_blk_arrAt_eq_flushed (2 : Fin 3)
    (fun t t' _ _ hne => absurd ((fin_N0 t).trans (fin_N0 t').symm) hne) cfg0.N t0_0 t0_0.isLt (flush0_2 _)
  exact h

/-- Each window is its whole array. -/
theorem read_win0 (f : main_arg0.ty.Contents (Elt F)) : (win0_0.blk (0 : Fin 1)).view.read (Elt F) f = f :=
  Memref.read_access_unit_zero (Elt F) main_arg0
    (show (fun a => (win0_0.index (0 : Fin 1)) a * main_arg0.ty.shape.size a) = fun _ => 0 from funext fun a => by fin_cases a <;> decide)
    (fun a => by fin_cases a <;> decide) f
/-- Reading all through the second window gives its array. -/
theorem read_win1 (f : main_arg1.ty.Contents (Elt F)) : (win0_1.blk (0 : Fin 1)).view.read (Elt F) f = f :=
  Memref.read_access_unit_zero (Elt F) main_arg1
    (show (fun a => (win0_1.index (0 : Fin 1)) a * main_arg1.ty.shape.size a) = fun _ => 0 from funext fun a => by fin_cases a <;> decide)
    (fun a => by fin_cases a <;> decide) f
/-- Reading all through the third window gives its array. -/
theorem read_win2 (f : main_v1.ty.Contents (Elt F)) : (win0_2.blk (0 : Fin 1)).view.read (Elt F) f = f :=
  Memref.read_access_unit_zero (Elt F) main_v1
    (show (fun a => (win0_2.index (0 : Fin 1)) a * main_v1.ty.shape.size a) = fun _ => 0 from funext fun a => by fin_cases a <;> decide)
    (fun a => by fin_cases a <;> decide) f

/-- The result array ends at the computed result. -/
theorem final_result (c : Dev nD) : finalA m ρ c (2 : Fin 3) = result m ρ c := (read_win2 _).symm.trans (final_out m ρ c)
/-- The staged rows of A are the array's, -/
theorem aStg_eq (c : Dev nD) : aStg m ρ c = m ((c : Thread nD τ).loc main_arg0) := read_win0 _
/-- and the staged B is B. -/
theorem bStg_eq (c : Dev nD) : bStg m ρ c = m ((c : Thread nD τ).loc main_arg1) := read_win1 _

/-- For any float values: every execution ends, with the arguments unchanged and every counter at zero. -/
theorem frame_any : θ_run defs (onTc (τ := τ) (main (F := F))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono
    (fun _ h => ⟨fun c => ⟨(h.1 c (0 : Fin 3)).trans (final_A m ρ c), (h.1 c (1 : Fin 3)).trans (final_B m ρ c)⟩, h.2⟩)
    (run_main m ρ)

/-! ## Over the extended reals -/

section Ideal

variable (m : (ℓ : Loc nD τ sig) → Buf (Elt Ideal) ℓ)

/-- Rounding to the narrow format changes nothing: what a device sends is its rows. -/
theorem rowsOf_ideal (i : Dev nD) : rowsOf m ρ i = (m ((i : Thread nD τ).loc main_arg0) : FVec Ideal S768x384 .f32) := by
  rw [← aStg_eq m ρ i]
  unfold rowsOf k0_pay1
  simp only [shapeCast_self]
  rfl

/-- And so for `B`. -/
theorem narrowB_ideal (c : Dev nD) : narrowB m ρ c = (m ((c : Thread nD τ).loc main_arg1) : FVec Ideal S384x768 .f32) := by
  rw [← bStg_eq m ρ c]
  unfold narrowB k0_pay2
  simp only [shapeCast_self]
  rfl

/-- A device's product at row `a`, column `b`: the sum over the inner dimension. -/
theorem prodRows_ideal (c i : Dev nD) (X : FVec Ideal ⟨2, ![768, 384]⟩ .f32) (Y : FVec Ideal ⟨2, ![384, 768]⟩ .f32)
    (hX : m ((i : Thread nD τ).loc main_arg0) = X) (hY : m ((c : Thread nD τ).loc main_arg1) = Y) (a b : Fin 768) :
    prodRows m ρ c i (ix2 a b) = ∑ k : Fin 384, X (ix2 a k) * Y (ix2 k b) := by
  unfold prodRows k0_pay3
  rw [rowsOf_ideal, narrowB_ideal, hX, hY]
  refine (Ideal.matmul_plain_apply (M := 768) (K := 384) (N := 768) (φ₁ := .bf16) (φ₂ := .bf16) none _ _ _ a b).trans ?_
  show Ideal.ofBits .f32 0x00000000#32 + _ = _
  rw [Ideal.ofBits_zero_f32, zero_add]

/-- When each device holds its block of rows of `A` and all hold `B`, each device's result is `A`'s product with `B`. -/
theorem result_ideal (A : FVec Ideal ⟨2, ![12288, 384]⟩ .f32) (B : FVec Ideal ⟨2, ![384, 768]⟩ .f32)
    (hA : ∀ c : Dev nD, m ((c : Thread nD τ).loc main_arg0) = Layout.block ⟨2, ![768, 384]⟩ ⟨2, ![12288, 384]⟩ 0 16 c A)
    (hB : ∀ c : Dev nD, m ((c : Thread nD τ).loc main_arg1) = B) (c : Dev nD) :
    result m ρ c = Host.dotGeneral (DotDims.plain 12288 384 768) none A B := by
  funext x
  have hx0 : (x 0).val < 12288 := (x 0).isLt
  have ex : x = ix2 (⟨(x 0).val, hx0⟩ : Fin 12288) (⟨(x 1).val, (x 1).isLt⟩ : Fin 768) := by
    funext a; match a with
    | ⟨0, _⟩ => rfl
    | ⟨1, _⟩ => rfl
  rw [ex, StackMember.dotGeneral_plain_apply]
  refine (prodRows_ideal ρ m c ⟨(x 0).val / 768, by show _ < 16; omega⟩ _ _ (hA _) (hB c) ⟨(x 0).val % 768, Nat.mod_lt _ (by decide)⟩ ⟨(x 1).val, (x 1).isLt⟩).trans ?_
  refine Finset.sum_congr rfl fun k _ => congrArg (· * B _) (congrArg A ?_)
  funext a; apply Fin.ext
  match a with
  | ⟨0, _⟩ => show (x 0).val / 768 * 768 + (x 0).val % 768 = (x 0).val; omega
  | ⟨1, _⟩ => rfl

end Ideal

end Cert.Gather

/-! ## The claims -/

namespace Cert.Gather.Claims

open Cert.Gather
open Idealize.ShloMosaic Idealize.ShloMosaic.TcCoe Idealize.SL.Sem

/-- The two printed programs have the same kernel body at the one label, -/
theorem same_bodies {F : FTy → Type} [FloatOps F] : Cert.Kernel.defs₀ (F := F) = Cert.KernelIdeal.defs₀ (F := F) := by
  unfold Cert.Kernel.defs₀ Cert.KernelIdeal.defs₀
  refine congrArg Defs.onTc (funext fun l => ?_)
  match l with
  | ⟨0, _⟩ => exact funext fun a => rfl
  | ⟨n + 1, h⟩ => exact absurd h (Nat.not_lt.2 (Nat.le_add_left _ _))

/-- and so the same table of bodies. -/
theorem same_defs {F : FTy → Type} [FloatOps F] : Cert.Kernel.defs (F := F) = Cert.KernelIdeal.defs (F := F) :=
  congrArg (Pipeline.defs (Cert.KernelIdeal.pcfgs (F := F))) same_bodies

/-- Every execution of the kernel in its own formats ends, with its arguments unchanged and every counter at zero. -/
theorem frame_kernel : Cert.quiescent_Kernel := by
  intro m ρ _
  rw [same_defs]
  exact frame_any (F := Bits) m ρ

/-- The same over the extended reals. -/
theorem frame_ideal : Cert.quiescent_KernelIdeal := fun m ρ _ => frame_any (F := Ideal) m ρ

/-- Every execution of the reference ends, with its arguments unchanged; it has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Over the extended reals every device's result is the whole product the reference computes. -/
theorem algebraic : Cert.algebraic_KernelIdeal_ReferenceIdeal := by
  intro m ρ m' ρ' _ hag
  refine ⟨Host.dotGeneral (F := Ideal) (φ₁ := .f32) (φ₂ := .f32) Cert.ReferenceIdeal.dot_S12288x384_S384x768_S12288x768_1_0_0_1_n_n none
      (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)), ?_, ?_⟩
  · exact (θ_run Cert.KernelIdeal.defs _ _).mono
      (fun _ h c => ⟨((h.1 c (2 : Fin 3)).trans (final_result m ρ c)).trans
          (result_ideal ρ m _ _ (fun c => (hag c).1) (fun c => (hag c).2) c),
        (h.1 c (0 : Fin 3)).trans (final_A m ρ c), (h.1 c (1 : Fin 3)).trans (final_B m ρ c)⟩)
      (run_main (F := Ideal) m ρ)
  · exact (θ_run Cert.ReferenceIdeal.defs _ _).mono (fun _ h => h 0) (Cert.ReferenceIdeal.Value.run (F := Ideal) m' ρ')

end Cert.Gather.Claims

end
-- ==== Proof.lean ====
/-
The claims of the statement, put together: the three runs, the idealization (no operation rewritten) and the value,
each proved in Proof/Value.lean over the run of Proof/Launch.lean.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts,
  Cert.Gather.Claims.frame_kernel, Cert.Gather.Claims.frame_ideal, Cert.Gather.Claims.frame_reference, trivial, Cert.Gather.Claims.algebraic⟩

end Cert.Proof

end
